-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![256, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![256, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S256x512 : Shape := ⟨2, ![256, 512]⟩
abbrev S3x64x512 : Shape := ⟨3, ![3, 64, 512]⟩
abbrev S8x128x512 : Shape := ⟨3, ![8, 128, 512]⟩
abbrev S14 : Shape := ⟨1, ![14]⟩
abbrev S_ : Shape := ⟨0, ![]⟩
abbrev S1 : Shape := ⟨1, ![1]⟩
abbrev S1x64x512 : Shape := ⟨3, ![1, 64, 512]⟩
abbrev S256x1024 : Shape := ⟨2, ![256, 1024]⟩
abbrev S1x128x512 : Shape := ⟨3, ![1, 128, 512]⟩
abbrev S128x512 : Shape := ⟨2, ![128, 512]⟩

abbrev nBuf : Space → Nat
  | .hbm => 8
  | .vmem => 13
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S256x512, .f32⟩
  | .local _ .vmem, ⟨9, _⟩ => ⟨S256x512, .f32⟩
  | .local _ .vmem, ⟨10, _⟩ => ⟨S3x64x512, .f32⟩
  | .local _ .vmem, ⟨11, _⟩ => ⟨S8x128x512, .f32⟩
  | .local _ .vmem, ⟨12, _⟩ => ⟨S3x64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_4 : BitVec 32 := 1#32
  let v8 : BitVec 32 := Scalar.muli v3 c1_i32_4
  let v9 : BitVec 32 := Scalar.addi c0_i32 v8
  v9.toNat
def k0_dev2 (d0 : Dev nD) : Nat :=
  let c0_i32_7 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_6 : BitVec 32 := 1#32
  let v10 : BitVec 32 := Scalar.muli v4 c1_i32_6
  let v11 : BitVec 32 := Scalar.addi c0_i32_7 v10
  v11.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_11 : BitVec 32 := 1#32
  let v12 : BitVec 32 := Scalar.muli v3 c1_i32_11
  let v13 : BitVec 32 := Scalar.addi c0_i32_12 v12
  v13.toNat
def k0_dev4 (d0 : Dev nD) : Nat :=
  let c0_i32_19 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_18 : BitVec 32 := 1#32
  let v20 : BitVec 32 := Scalar.muli v4 c1_i32_18
  let v21 : BitVec 32 := Scalar.addi c0_i32_19 v20
  v21.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v50 : BitVec 32 := Scalar.muli v2 c64_i32
  let v51 : Index := Scalar.indexCast v50
  let c0_49 : Index := 0#32
  ![v51.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c64_i32_53 : BitVec 32 := 64#32
  let v57 : BitVec 32 := Scalar.muli v3 c64_i32_53
  let v58 : Index := Scalar.indexCast v57
  let c0_54 : Index := 0#32
  ![v58.toNat, 0]
def k0_off3 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c64_i32_57 : BitVec 32 := 64#32
  let v64 : BitVec 32 := Scalar.muli v4 c64_i32_57
  let v65 : Index := Scalar.indexCast v64
  let c0_58 : Index := 0#32
  ![v65.toNat, 0]
def k0_dev5 (d0 : Dev nD) : Nat :=
  let c0_i32_64 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_63 : BitVec 32 := 1#32
  let v69 : BitVec 32 := Scalar.muli v4 c1_i32_63
  let v70 : BitVec 32 := Scalar.addi c0_i32_64 v69
  v70.toNat
def k0_off4 (d0 : Dev nD) : Fin 2 → Nat :=
  let c3_i32_1 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32_1 v2
  let c1_i32_2 : BitVec 32 := 1#32
  let v6 : BitVec 32 := Scalar.xori v5 c1_i32_2
  let c64_i32_90 : BitVec 32 := 64#32
  let v95 : BitVec 32 := Scalar.muli v6 c64_i32_90
  let v96 : Index := Scalar.indexCast v95
  let c0_91 : Index := 0#32
  ![v96.toNat, 0]
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_105 : BitVec 32 := 1#32
  let v112 : BitVec 32 := Scalar.muli v3 c1_i32_105
  let v113 : BitVec 32 := Scalar.addi c0_i32_106 v112
  v113.toNat
def k0_dev7 (d0 : Dev nD) : Nat :=
  let c0_i32_115 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_114 : BitVec 32 := 1#32
  let v121 : BitVec 32 := Scalar.muli v4 c1_i32_114
  let v122 : BitVec 32 := Scalar.addi c0_i32_115 v121
  v122.toNat
def k0_dev8 (d0 : Dev nD) : Nat :=
  let c0_i32_169 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_168 : BitVec 32 := 1#32
  let v168 : BitVec 32 := Scalar.muli v4 c1_i32_168
  let v169 : BitVec 32 := Scalar.addi c0_i32_169 v168
  v169.toNat
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_176 : BitVec 32 := 1#32
  let v177 : BitVec 32 := Scalar.muli v3 c1_i32_176
  let v178 : BitVec 32 := Scalar.addi c0_i32_177 v177
  v178.toNat
def k0_dev10 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_242 : BitVec 32 := 1#32
  let v236 : BitVec 32 := Scalar.muli v3 c1_i32_242
  let v237 : BitVec 32 := Scalar.addi c0_i32_243 v236
  v237.toNat
def k0_dev11 (d0 : Dev nD) : Nat :=
  let c0_i32_251 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_250 : BitVec 32 := 1#32
  let v245 : BitVec 32 := Scalar.muli v4 c1_i32_250
  let v246 : BitVec 32 := Scalar.addi c0_i32_251 v245
  v246.toNat
def k0_dev12 (d0 : Dev nD) : Nat :=
  let c0_i32_305 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_304 : BitVec 32 := 1#32
  let v292 : BitVec 32 := Scalar.muli v4 c1_i32_304
  let v293 : BitVec 32 := Scalar.addi c0_i32_305 v292
  v293.toNat
def k0_dev13 (d0 : Dev nD) : Nat :=
  let c0_i32_313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_312 : BitVec 32 := 1#32
  let v301 : BitVec 32 := Scalar.muli v3 c1_i32_312
  let v302 : BitVec 32 := Scalar.addi c0_i32_313 v301
  v302.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c64_i32_375 : BitVec 32 := 64#32
  let v360 : BitVec 32 := Scalar.muli v3 c64_i32_375
  let c0_i32_384 : BitVec 32 := 0#32
  ![v360.toNat, 0]
def k0_dev14 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_380 : BitVec 32 := 1#32
  let v363 : BitVec 32 := Scalar.muli v3 c1_i32_380
  let v364 : BitVec 32 := Scalar.addi c0_i32_381 v363
  v364.toNat
def k0_off6 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c64_i32_376 : BitVec 32 := 64#32
  let v361 : BitVec 32 := Scalar.muli v4 c64_i32_376
  let c0_i32_391 : BitVec 32 := 0#32
  ![v361.toNat, 0]
def k0_dev15 (d0 : Dev nD) : Nat :=
  let c0_i32_388 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_387 : BitVec 32 := 1#32
  let v372 : BitVec 32 := Scalar.muli v4 c1_i32_387
  let v373 : BitVec 32 := Scalar.addi c0_i32_388 v372
  v373.toNat
def k0_off7 (d0 : Dev nD) : Fin 2 → Nat :=
  let c3_i32_1 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32_1 v2
  let c1_i32_2 : BitVec 32 := 1#32
  let v6 : BitVec 32 := Scalar.xori v5 c1_i32_2
  let c64_i32_377 : BitVec 32 := 64#32
  let v362 : BitVec 32 := Scalar.muli v6 c64_i32_377
  let c0_i32_398 : BitVec 32 := 0#32
  ![v362.toNat, 0]
def k0_dev16 (d0 : Dev nD) : Nat :=
  let c0_i32_395 : BitVec 32 := 0#32
  let c3_i32_1 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32_1 v2
  let c1_i32_2 : BitVec 32 := 1#32
  let v6 : BitVec 32 := Scalar.xori v5 c1_i32_2
  let c1_i32_394 : BitVec 32 := 1#32
  let v381 : BitVec 32 := Scalar.muli v6 c1_i32_394
  let v382 : BitVec 32 := Scalar.addi c0_i32_395 v381
  v382.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x512 : Shape := ⟨2, ![256, 512]⟩
abbrev S512x4096 : Shape := ⟨2, ![512, 4096]⟩
abbrev S4096x512 : Shape := ⟨2, ![4096, 512]⟩
abbrev S256x4096 : Shape := ⟨2, ![256, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S4096x512, .f32⟩
  | .hbm, ⟨3, _⟩ => ⟨S512x4096, .f32⟩
  | .hbm, ⟨4, _⟩ => ⟨S4096x512, .f32⟩
  | .hbm, ⟨5, _⟩ => ⟨S512x4096, .f32⟩
  | .hbm, ⟨6, _⟩ => ⟨S4096x512, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S256x512, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .f32⟩
  | .hbm, ⟨16, _⟩ => ⟨S256x512, .f32⟩
  | .hbm, ⟨17, _⟩ => ⟨S256x4096, .f32⟩
  | .hbm, ⟨18, _⟩ => ⟨S_, .f32⟩
  | .hbm, ⟨19, _⟩ => ⟨S256x4096, .f32⟩
  | .hbm, ⟨20, _⟩ => ⟨S256x4096, .f32⟩
  | .hbm, ⟨21, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ideal.Mesh.lean ====
/-
# The mesh, the buffers' pieces and the semaphores

Four devices. Each exchanges with two neighbours, `pY` and `pX`, and with the device diagonally opposite,
`pD = pX ∘ pY`. The three maps are involutions and commute. This module names the pieces of the scratch buffers the
copies move — the slots of the three landing buffers, the two halves and the four row blocks of a 256 by 512 buffer — and
states that each family of pieces is a partition of its buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's part and the part of this kernel's own cells -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The peers -/

/-- The neighbour whose number differs in the last bit. -/
def pY : Dev nD → Dev nD := ![1, 0, 3, 2]
/-- The neighbour at the mirrored number. -/
def pX : Dev nD → Dev nD := ![3, 2, 1, 0]
/-- The device diagonally opposite. -/
def pD : Dev nD → Dev nD := ![2, 3, 0, 1]

theorem pY_pY (c : Dev nD) : pY (pY c) = c := by revert c; decide
theorem pX_pX (c : Dev nD) : pX (pX c) = c := by revert c; decide
theorem pD_pD (c : Dev nD) : pD (pD c) = c := by revert c; decide
theorem pY_pX (c : Dev nD) : pY (pX c) = pD c := by revert c; decide
theorem pX_pY (c : Dev nD) : pX (pY c) = pD c := by revert c; decide
theorem pD_pY (c : Dev nD) : pD (pY c) = pX c := by revert c; decide
theorem pY_pD (c : Dev nD) : pY (pD c) = pX c := by revert c; decide
theorem pD_pX (c : Dev nD) : pD (pX c) = pY c := by revert c; decide
theorem pX_pD (c : Dev nD) : pX (pD c) = pY c := by revert c; decide

/-- The four devices, listed from any one of them. -/
theorem around_nodup (c : Dev nD) : [c, pY c, pX c, pD c].Nodup := by revert c; decide
theorem around_all (c d : Dev nD) : d ∈ [c, pY c, pX c, pD c] := by revert c d; decide

/-! ### The kernel's device chains -/

theorem dev1_eq (c : Dev nD) : (⟨k0_dev1 c, k0_dev1_lt c⟩ : Dev nD) = pY c := by revert c; decide
theorem dev2_eq (c : Dev nD) : (⟨k0_dev2 c, k0_dev2_lt c⟩ : Dev nD) = pX c := by revert c; decide
theorem dev3_eq (c : Dev nD) : (⟨k0_dev3 c, k0_dev3_lt c⟩ : Dev nD) = pY c := by revert c; decide
theorem dev4_eq (c : Dev nD) : (⟨k0_dev4 c, k0_dev4_lt c⟩ : Dev nD) = pX c := by revert c; decide
theorem dev5_eq (c : Dev nD) : (⟨k0_dev5 c, k0_dev5_lt c⟩ : Dev nD) = pX c := by revert c; decide
theorem dev6_eq (c : Dev nD) : (⟨k0_dev6 c, k0_dev6_lt c⟩ : Dev nD) = pY c := by revert c; decide
theorem dev7_eq (c : Dev nD) : (⟨k0_dev7 c, k0_dev7_lt c⟩ : Dev nD) = pX c := by revert c; decide
theorem dev8_eq (c : Dev nD) : (⟨k0_dev8 c, k0_dev8_lt c⟩ : Dev nD) = pX c := by revert c; decide
theorem dev9_eq (c : Dev nD) : (⟨k0_dev9 c, k0_dev9_lt c⟩ : Dev nD) = pY c := by revert c; decide
theorem dev10_eq (c : Dev nD) : (⟨k0_dev10 c, k0_dev10_lt c⟩ : Dev nD) = pY c := by revert c; decide
theorem dev11_eq (c : Dev nD) : (⟨k0_dev11 c, k0_dev11_lt c⟩ : Dev nD) = pX c := by revert c; decide
theorem dev12_eq (c : Dev nD) : (⟨k0_dev12 c, k0_dev12_lt c⟩ : Dev nD) = pX c := by revert c; decide
theorem dev13_eq (c : Dev nD) : (⟨k0_dev13 c, k0_dev13_lt c⟩ : Dev nD) = pY c := by revert c; decide
theorem dev14_eq (c : Dev nD) : (⟨k0_dev14 c, k0_dev14_lt c⟩ : Dev nD) = pY c := by revert c; decide
theorem dev15_eq (c : Dev nD) : (⟨k0_dev15 c, k0_dev15_lt c⟩ : Dev nD) = pX c := by revert c; decide
theorem dev16_eq (c : Dev nD) : (⟨k0_dev16 c, k0_dev16_lt c⟩ : Dev nD) = pD c := by revert c; decide

/-! ## Row blocks and halves of a 256 by 512 array -/

/-- The first row and column of device `d`'s row block. -/
def rowOff (d : Dev nD) : Fin 2 → Nat := ![64 * d.val, 0]

theorem rowOff_inb (d : Dev nD) : ∀ a, rowOff d a + S64x512.size a ≤ S256x512.size a := by revert d; decide

theorem off1_eq (c : Dev nD) : k0_off1 c = rowOff c := by revert c; decide
theorem off2_eq (c : Dev nD) : k0_off2 c = rowOff (pY c) := by revert c; decide
theorem off3_eq (c : Dev nD) : k0_off3 c = rowOff (pX c) := by revert c; decide
theorem off4_eq (c : Dev nD) : k0_off4 c = rowOff (pD c) := by revert c; decide
theorem off5_eq (c : Dev nD) : k0_off5 c = rowOff (pY c) := by revert c; decide
theorem off6_eq (c : Dev nD) : k0_off6 c = rowOff (pX c) := by revert c; decide
theorem off7_eq (c : Dev nD) : k0_off7 c = rowOff (pD c) := by revert c; decide

abbrev rowR (d : Dev nD) : Rect S256x512 := Rect.unit (s := S256x512) (rowOff d) S64x512.size (rowOff_inb d)
abbrev loR : Rect S256x512 := Rect.unit (s := S256x512) ![0, 0] S128x512.size inb_S256x512_S128x512_0_0
abbrev hiR : Rect S256x512 := Rect.unit (s := S256x512) ![128, 0] S128x512.size inb_S256x512_S128x512_128_0

/-- Device `d`'s row block of an array, its first 128 rows, its last 128 rows. -/
def rows (d : Dev nD) (v : Vec F S256x512 .f32) : Vec F S64x512 .f32 := fun j => v ((rowR d).emb j)
def lo (v : Vec F S256x512 .f32) : Vec F S128x512 .f32 := fun j => v (loR.emb j)
def hi (v : Vec F S256x512 .f32) : Vec F S128x512 .f32 := fun j => v (hiR.emb j)

/-- Membership of the pieces, by the row. -/
theorem mem_rowR (d : Dev nD) (i : S256x512.Idx) : Iff (i ∈ (rowR d).set) (64 * d.val ≤ (i 0).val ∧ (i 0).val < 64 * d.val + 64) := by
  rw [Rect.mem_set_unit]
  constructor
  · intro h; exact h 0
  · intro h a
    match a with
    | ⟨0, _⟩ => exact h
    | ⟨1, _⟩ => exact ⟨Nat.zero_le _, (i 1).isLt⟩
theorem mem_loR (i : S256x512.Idx) : Iff (i ∈ loR.set) ((i 0).val < 128) := by
  rw [Rect.mem_set_unit]
  constructor
  · intro h; exact (h 0).2
  · intro h a
    match a with
    | ⟨0, _⟩ => exact ⟨Nat.zero_le _, h⟩
    | ⟨1, _⟩ => exact ⟨Nat.zero_le _, (i 1).isLt⟩
theorem mem_hiR (i : S256x512.Idx) : Iff (i ∈ hiR.set) (128 ≤ (i 0).val) := by
  rw [Rect.mem_set_unit]
  constructor
  · intro h; exact (h 0).1
  · intro h a
    match a with
    | ⟨0, _⟩ => exact ⟨h, (i 0).isLt⟩
    | ⟨1, _⟩ => exact ⟨Nat.zero_le _, (i 1).isLt⟩

theorem lo_hi_disjoint : Disjoint loR.set hiR.set := Finset.disjoint_left.mpr fun i h h' => by
  rw [mem_loR] at h; rw [mem_hiR] at h'; omega
theorem lo_hi_cover : loR.set ∪ hiR.set = Finset.univ := Finset.eq_univ_iff_forall.mpr fun i => by
  rw [Finset.mem_union, mem_loR, mem_hiR]; omega
theorem rows_disjoint (d d' : Dev nD) (h : d ≠ d') : Disjoint (rowR d).set (rowR d').set := Finset.disjoint_left.mpr fun i h1 h2 => by
  rw [mem_rowR] at h1 h2; exact h (Fin.ext (by omega))
/-- The device whose row block holds a row. -/
def rowDev (i : S256x512.Idx) : Dev nD := ⟨(i 0).val / 64, by have : (i 0).val < 256 := (i 0).isLt; show (i 0).val / 64 < 4; omega⟩
theorem mem_rowDev (i : S256x512.Idx) : i ∈ (rowR (rowDev i)).set := by
  rw [mem_rowR]; show 64 * ((i 0).val / 64) ≤ _ ∧ _ < 64 * ((i 0).val / 64) + 64; omega
theorem rows_cover : (Finset.univ : Finset (Dev nD)).biUnion (fun d => (rowR d).set) = Finset.univ :=
  Finset.eq_univ_iff_forall.mpr fun i => Finset.mem_biUnion.mpr ⟨rowDev i, Finset.mem_univ _, mem_rowDev i⟩

/-- An array is determined by its halves, and by its row blocks. -/
theorem ext_halves {f g : Vec F S256x512 .f32} (h1 : lo f = lo g) (h2 : hi f = hi g) : f = g := funext fun i => by
  rcases Finset.mem_union.mp (lo_hi_cover ▸ Finset.mem_univ i : i ∈ loR.set ∪ hiR.set) with h | h
  · obtain ⟨j, rfl⟩ := loR.exists_idx_of_mem h; exact congrFun h1 j
  · obtain ⟨j, rfl⟩ := hiR.exists_idx_of_mem h; exact congrFun h2 j
theorem ext_rows {f g : Vec F S256x512 .f32} (h : ∀ d, rows d f = rows d g) : f = g := funext fun i => by
  obtain ⟨j, hj⟩ := (rowR (rowDev i)).exists_idx_of_mem (mem_rowDev i)
  rw [← hj]; exact congrFun (h _) j

/-! ## The slots of the landing buffers -/

theorem inb3 (i : Fin 3) : ∀ a, (![i.val, 0, 0] : Fin 3 → Nat) a + S1x64x512.size a ≤ S3x64x512.size a := by revert i; decide
theorem inb8 (i : Fin 8) : ∀ a, (![i.val, 0, 0] : Fin 3 → Nat) a + S1x128x512.size a ≤ S8x128x512.size a := by revert i; decide

abbrev slot3 (i : Fin 3) : Rect S3x64x512 := Rect.unit (s := S3x64x512) ![i.val, 0, 0] S1x64x512.size (inb3 i)
abbrev slot8 (i : Fin 8) : Rect S8x128x512 := Rect.unit (s := S8x128x512) ![i.val, 0, 0] S1x128x512.size (inb8 i)

abbrev xM : Memref sig .tc .vmem S64x512 .f32 := Memref.whole cc0_stg0_0
abbrev fM : Memref sig .tc .vmem S256x512 .f32 := Memref.whole cc0_scratch0
abbrev pM : Memref sig .tc .vmem S256x512 .f32 := Memref.whole cc0_scratch1
abbrev agM : Memref sig .tc .vmem S3x64x512 .f32 := Memref.whole cc0_scratch2
abbrev arM : Memref sig .tc .vmem S8x128x512 .f32 := Memref.whole cc0_scratch3
abbrev rsM : Memref sig .tc .vmem S3x64x512 .f32 := Memref.whole cc0_scratch4

/-- Slot `i` of the buffer the gathered inputs land in, of the one the partial sums land in, of the one the last exchange lands in. -/
abbrev ag (i : Fin 3) : Memref sig .tc .vmem S64x512 .f32 := (agM.slice (slot3 i) (fun _ => rfl)).squeeze S64x512 squeezes_S1x64x512_S64x512
abbrev ar (i : Fin 8) : Memref sig .tc .vmem S128x512 .f32 := (arM.slice (slot8 i) (fun _ => rfl)).squeeze S128x512 squeezes_S1x128x512_S128x512
abbrev rs (i : Fin 3) : Memref sig .tc .vmem S64x512 .f32 := (rsM.slice (slot3 i) (fun _ => rfl)).squeeze S64x512 squeezes_S1x64x512_S64x512

/-- The halves of the two large buffers, and the row blocks of the one that is sent by rows. -/
abbrev fLo : Memref sig .tc .vmem S128x512 .f32 := fM.slice loR (fun _ => rfl)
abbrev fHi : Memref sig .tc .vmem S128x512 .f32 := fM.slice hiR (fun _ => rfl)
abbrev pLo : Memref sig .tc .vmem S128x512 .f32 := pM.slice loR (fun _ => rfl)
abbrev pHi : Memref sig .tc .vmem S128x512 .f32 := pM.slice hiR (fun _ => rfl)
abbrev pRow (d : Dev nD) : Memref sig .tc .vmem S64x512 .f32 := pM.slice (rowR d) (fun _ => rfl)

theorem ag_set (i : Fin 3) : (ag i).view.set = (slot3 i).set := by
  show ((View.whole cc0_scratch2).slice (slot3 i) |>.reshape _ _).set = _
  rw [View.set_reshape]; exact View.set_slice_whole _ _
theorem ar_set (i : Fin 8) : (ar i).view.set = (slot8 i).set := by
  show ((View.whole cc0_scratch3).slice (slot8 i) |>.reshape _ _).set = _
  rw [View.set_reshape]; exact View.set_slice_whole _ _
theorem rs_set (i : Fin 3) : (rs i).view.set = (slot3 i).set := by
  show ((View.whole cc0_scratch4).slice (slot3 i) |>.reshape _ _).set = _
  rw [View.set_reshape]; exact View.set_slice_whole _ _

theorem mem_slot3 (i : Fin 3) (x : S3x64x512.Idx) : Iff (x ∈ (slot3 i).set) ((x 0).val = i.val) := by
  rw [Rect.mem_set_unit]
  constructor
  · intro h; have := h 0; change i.val ≤ (x 0).val ∧ (x 0).val < i.val + 1 at this; omega
  · intro h a
    match a with
    | ⟨0, _⟩ => show i.val ≤ (x 0).val ∧ (x 0).val < i.val + 1; omega
    | ⟨1, _⟩ => exact ⟨Nat.zero_le _, (x 1).isLt⟩
    | ⟨2, _⟩ => exact ⟨Nat.zero_le _, (x 2).isLt⟩
theorem mem_slot8 (i : Fin 8) (x : S8x128x512.Idx) : Iff (x ∈ (slot8 i).set) ((x 0).val = i.val) := by
  rw [Rect.mem_set_unit]
  constructor
  · intro h; have := h 0; change i.val ≤ (x 0).val ∧ (x 0).val < i.val + 1 at this; omega
  · intro h a
    match a with
    | ⟨0, _⟩ => show i.val ≤ (x 0).val ∧ (x 0).val < i.val + 1; omega
    | ⟨1, _⟩ => exact ⟨Nat.zero_le _, (x 1).isLt⟩
    | ⟨2, _⟩ => exact ⟨Nat.zero_le _, (x 2).isLt⟩
theorem slot3_disjoint (i j : Fin 3) (h : i ≠ j) : Disjoint (slot3 i).set (slot3 j).set := Finset.disjoint_left.mpr fun x h1 h2 => by
  rw [mem_slot3] at h1 h2; exact h (Fin.ext (h1.symm.trans h2))
theorem slot8_disjoint (i j : Fin 8) (h : i ≠ j) : Disjoint (slot8 i).set (slot8 j).set := Finset.disjoint_left.mpr fun x h1 h2 => by
  rw [mem_slot8] at h1 h2; exact h (Fin.ext (h1.symm.trans h2))
theorem slot3_cover : (Finset.univ : Finset (Fin 3)).biUnion (fun i => (slot3 i).set) = Finset.univ :=
  Finset.eq_univ_iff_forall.mpr fun x => Finset.mem_biUnion.mpr ⟨⟨(x 0).val, (x 0).isLt⟩, Finset.mem_univ _, (mem_slot3 _ x).mpr rfl⟩
theorem slot8_cover : (Finset.univ : Finset (Fin 8)).biUnion (fun i => (slot8 i).set) = Finset.univ :=
  Finset.eq_univ_iff_forall.mpr fun x => Finset.mem_biUnion.mpr ⟨⟨(x 0).val, (x 0).isLt⟩, Finset.mem_univ _, (mem_slot8 _ x).mpr rfl⟩

/-! ## Owning a piece -/

/-- Device `c` owns a piece of one of its buffers at some contents. -/
def room (c : Dev nD) {s : Shape} (M : Memref sig .tc .vmem s .f32) : sProp 𝕄 :=
  iprop(∃ f : Buf (Elt F) (M.view.loc (c : Thread nD τ)), M.view.loc (c : Thread nD τ) ↦[M.view.set]{fullShare} f)
/-- Device `c` owns a piece of one of its buffers, holding `X`. -/
def held (c : Dev nD) {s : Shape} (M : Memref sig .tc .vmem s .f32) (X : Vec F s .f32) : sProp 𝕄 :=
  owns (c : Thread nD τ) M fullShare X

instance room_storable (c : Dev nD) {s : Shape} (M : Memref sig .tc .vmem s .f32) : BI.Storable (upEmb : UEmb _ 𝕄) (room (F := F) c M) := by
  unfold room; infer_instance
instance held_storable (c : Dev nD) {s : Shape} (M : Memref sig .tc .vmem s .f32) (X : Vec F s .f32) : BI.Storable (upEmb : UEmb _ 𝕄) (held (F := F) c M X) := by
  unfold held; infer_instance

theorem held_room (c : Dev nD) {s : Shape} (M : Memref sig .tc .vmem s .f32) (X : Vec F s .f32) : held (F := F) c M X ⊢ room c M := by
  unfold held room owns
  iintro ⟨%f, -, H⟩
  iexists f; iexact H

/-- What a copy leaves in the piece it lands in. -/
theorem landed (c : Dev nD) {s : Shape} (M : Memref sig .tc .vmem s .f32) (f : Buf (Elt F) (M.view.loc (c : Thread nD τ))) (X : Vec F s .f32) :
    (M.view.loc (c : Thread nD τ) ↦[M.view.set]{fullShare} (M.view.write (Elt F) f X Finset.univ) : sProp 𝕄) ⊢ held c M X := by
  unfold held
  exact (owns_intro (c : Thread nD τ) M fullShare _).trans (Entails.of_eq (by rw [View.read_write_univ]))

/-! ### Conjunctions over the slots and over the devices -/

theorem sep_fin3 {M : Type} [URA M] (Φ : Fin 3 → sProp M) : bigSep Finset.univ Φ = iprop(Φ 0 ∗ Φ 1 ∗ Φ 2) :=
  bigSep_univ_eq_bigSepL [(0 : Fin 3), (1 : Fin 3), (2 : Fin 3)] (by decide) (by decide) Φ
theorem sep_fin8 {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ
theorem sep_fin14 {M : Type} [URA M] (Φ : Fin 14 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide) Φ
theorem sep_around {M : Type} [URA M] (c : Dev nD) (Φ : Dev nD → sProp M) : bigSep Finset.univ Φ = iprop(Φ c ∗ Φ (pY c) ∗ Φ (pX c) ∗ Φ (pD c)) :=
  bigSep_univ_eq_bigSepL [c, pY c, pX c, pD c] (Finset.eq_univ_iff_forall.mpr fun d => List.mem_toFinset.mpr (around_all c d)).symm (around_nodup c) Φ

/-! ### A whole landing buffer is its slots, and back -/

theorem ag_split (c : Dev nD) : iprop(∃ f : Buf (Elt F) ((c : Thread nD τ).loc cc0_scratch2), ((c : Thread nD τ).loc cc0_scratch2) ↦{fullShare} f)
    ⊢ (iprop(room c (ag 0) ∗ room c (ag 1) ∗ room c (ag 2)) : sProp 𝕄) := by
  iintro ⟨%f, H⟩
  ihave H' := (Entails.of_eq (show (((c : Thread nD τ).loc cc0_scratch2) ↦{fullShare} f : sProp 𝕄)
      = bigSep Finset.univ fun i : Fin 3 => (((c : Thread nD τ).loc cc0_scratch2) ↦[(slot3 i).set]{fullShare} f) from by
    rw [← slot3_cover]; exact pointsTo_biUnion _ _ fun i _ j _ h => slot3_disjoint i j h)) $$ H
  ihave H'' := (Entails.of_eq (sep_fin3 _)) $$ H'
  icases H'' with ⟨H0, H1, H2⟩
  unfold room
  isplitl [H0]; · iexists f; rw [ag_set]; iexact H0
  isplitl [H1]; · iexists f; rw [ag_set]; iexact H1
  iexists f; rw [ag_set]; iexact H2
theorem ag_join (c : Dev nD) : (iprop(room c (ag 0) ∗ room c (ag 1) ∗ room c (ag 2)) : sProp 𝕄)
    ⊢ iprop(∃ f : Buf (Elt F) ((c : Thread nD τ).loc cc0_scratch2), ((c : Thread nD τ).loc cc0_scratch2) ↦{fullShare} f) := by
  unfold room
  iintro ⟨⟨%f0, H0⟩, ⟨%f1, H1⟩, ⟨%f2, H2⟩⟩
  ihave H := (pointsTo_biUnion_join (ℓ := (c : Thread nD τ).loc cc0_scratch2) (q := fullShare) Finset.univ (fun i : Fin 3 => (slot3 i).set)
      (fun i => match i with | 0 => f0 | 1 => f1 | 2 => f2) f0 (fun i _ j _ h => slot3_disjoint i j h)) $$ [H0 H1 H2]
  · iapply (Entails.of_eq (sep_fin3 _).symm)
    isplitl [H0]; · rw [ag_set]; iexact H0
    isplitl [H1]; · rw [ag_set]; iexact H1
    rw [ag_set]; iexact H2
  icases H with ⟨%g, -, H⟩
  iexists g
  rw [slot3_cover]; iexact H

theorem ar_split (c : Dev nD) : iprop(∃ f : Buf (Elt F) ((c : Thread nD τ).loc cc0_scratch3), ((c : Thread nD τ).loc cc0_scratch3) ↦{fullShare} f)
    ⊢ (iprop(room c (ar 0) ∗ room c (ar 1) ∗ room c (ar 2) ∗ room c (ar 3) ∗ room c (ar 4) ∗ room c (ar 5) ∗ room c (ar 6) ∗ room c (ar 7)) : sProp 𝕄) := by
  iintro ⟨%f, H⟩
  ihave H' := (Entails.of_eq (show (((c : Thread nD τ).loc cc0_scratch3) ↦{fullShare} f : sProp 𝕄)
      = bigSep Finset.univ fun i : Fin 8 => (((c : Thread nD τ).loc cc0_scratch3) ↦[(slot8 i).set]{fullShare} f) from by
    rw [← slot8_cover]; exact pointsTo_biUnion _ _ fun i _ j _ h => slot8_disjoint i j h)) $$ H
  ihave H'' := (Entails.of_eq (sep_fin8 _)) $$ H'
  icases H'' with ⟨H0, H1, H2, H3, H4, H5, H6, H7⟩
  unfold room
  isplitl [H0]; · iexists f; rw [ar_set]; iexact H0
  isplitl [H1]; · iexists f; rw [ar_set]; iexact H1
  isplitl [H2]; · iexists f; rw [ar_set]; iexact H2
  isplitl [H3]; · iexists f; rw [ar_set]; iexact H3
  isplitl [H4]; · iexists f; rw [ar_set]; iexact H4
  isplitl [H5]; · iexists f; rw [ar_set]; iexact H5
  isplitl [H6]; · iexists f; rw [ar_set]; iexact H6
  iexists f; rw [ar_set]; iexact H7
theorem ar_join (c : Dev nD) : (iprop(room c (ar 0) ∗ room c (ar 1) ∗ room c (ar 2) ∗ room c (ar 3) ∗ room c (ar 4) ∗ room c (ar 5) ∗ room c (ar 6) ∗ room c (ar 7)) : sProp 𝕄)
    ⊢ iprop(∃ f : Buf (Elt F) ((c : Thread nD τ).loc cc0_scratch3), ((c : Thread nD τ).loc cc0_scratch3) ↦{fullShare} f) := by
  unfold room
  iintro ⟨⟨%f0, H0⟩, ⟨%f1, H1⟩, ⟨%f2, H2⟩, ⟨%f3, H3⟩, ⟨%f4, H4⟩, ⟨%f5, H5⟩, ⟨%f6, H6⟩, ⟨%f7, H7⟩⟩
  ihave H := (pointsTo_biUnion_join (ℓ := (c : Thread nD τ).loc cc0_scratch3) (q := fullShare) Finset.univ (fun i : Fin 8 => (slot8 i).set)
      (fun i => match i with | 0 => f0 | 1 => f1 | 2 => f2 | 3 => f3 | 4 => f4 | 5 => f5 | 6 => f6 | 7 => f7) f0 (fun i _ j _ h => slot8_disjoint i j h)) $$ [H0 H1 H2 H3 H4 H5 H6 H7]
  · iapply (Entails.of_eq (sep_fin8 _).symm)
    isplitl [H0]; · rw [ar_set]; iexact H0
    isplitl [H1]; · rw [ar_set]; iexact H1
    isplitl [H2]; · rw [ar_set]; iexact H2
    isplitl [H3]; · rw [ar_set]; iexact H3
    isplitl [H4]; · rw [ar_set]; iexact H4
    isplitl [H5]; · rw [ar_set]; iexact H5
    isplitl [H6]; · rw [ar_set]; iexact H6
    rw [ar_set]; iexact H7
  icases H with ⟨%g, -, H⟩
  iexists g
  rw [slot8_cover]; iexact H

theorem rs_split (c : Dev nD) : iprop(∃ f : Buf (Elt F) ((c : Thread nD τ).loc cc0_scratch4), ((c : Thread nD τ).loc cc0_scratch4) ↦{fullShare} f)
    ⊢ (iprop(room c (rs 0) ∗ room c (rs 1) ∗ room c (rs 2)) : sProp 𝕄) := by
  iintro ⟨%f, H⟩
  ihave H' := (Entails.of_eq (show (((c : Thread nD τ).loc cc0_scratch4) ↦{fullShare} f : sProp 𝕄)
      = bigSep Finset.univ fun i : Fin 3 => (((c : Thread nD τ).loc cc0_scratch4) ↦[(slot3 i).set]{fullShare} f) from by
    rw [← slot3_cover]; exact pointsTo_biUnion _ _ fun i _ j _ h => slot3_disjoint i j h)) $$ H
  ihave H'' := (Entails.of_eq (sep_fin3 _)) $$ H'
  icases H'' with ⟨H0, H1, H2⟩
  unfold room
  isplitl [H0]; · iexists f; rw [rs_set]; iexact H0
  isplitl [H1]; · iexists f; rw [rs_set]; iexact H1
  iexists f; rw [rs_set]; iexact H2
theorem rs_join (c : Dev nD) : (iprop(room c (rs 0) ∗ room c (rs 1) ∗ room c (rs 2)) : sProp 𝕄)
    ⊢ iprop(∃ f : Buf (Elt F) ((c : Thread nD τ).loc cc0_scratch4), ((c : Thread nD τ).loc cc0_scratch4) ↦{fullShare} f) := by
  unfold room
  iintro ⟨⟨%f0, H0⟩, ⟨%f1, H1⟩, ⟨%f2, H2⟩⟩
  ihave H := (pointsTo_biUnion_join (ℓ := (c : Thread nD τ).loc cc0_scratch4) (q := fullShare) Finset.univ (fun i : Fin 3 => (slot3 i).set)
      (fun i => match i with | 0 => f0 | 1 => f1 | 2 => f2) f0 (fun i _ j _ h => slot3_disjoint i j h)) $$ [H0 H1 H2]
  · iapply (Entails.of_eq (sep_fin3 _).symm)
    isplitl [H0]; · rw [rs_set]; iexact H0
    isplitl [H1]; · rw [rs_set]; iexact H1
    rw [rs_set]; iexact H2
  icases H with ⟨%g, -, H⟩
  iexists g
  rw [slot3_cover]; iexact H

/-! ### A large buffer at one contents is its halves, and its row blocks, at those contents -/

theorem f_halves (c : Dev nD) (f : Buf (Elt F) ((c : Thread nD τ).loc cc0_scratch0)) :
    (((c : Thread nD τ).loc cc0_scratch0) ↦{fullShare} f : sProp 𝕄)
      ⊣⊢ iprop((fLo.view.loc (c : Thread nD τ) ↦[fLo.view.set]{fullShare} f) ∗ (fHi.view.loc (c : Thread nD τ) ↦[fHi.view.set]{fullShare} f)) := by
  rw [show fLo.view.set = loR.set from View.set_slice_whole _ _, show fHi.view.set = hiR.set from View.set_slice_whole _ _, ← lo_hi_cover]
  exact pointsTo_union lo_hi_disjoint
theorem p_halves (c : Dev nD) (f : Buf (Elt F) ((c : Thread nD τ).loc cc0_scratch1)) :
    (((c : Thread nD τ).loc cc0_scratch1) ↦{fullShare} f : sProp 𝕄)
      ⊣⊢ iprop((pLo.view.loc (c : Thread nD τ) ↦[pLo.view.set]{fullShare} f) ∗ (pHi.view.loc (c : Thread nD τ) ↦[pHi.view.set]{fullShare} f)) := by
  rw [show pLo.view.set = loR.set from View.set_slice_whole _ _, show pHi.view.set = hiR.set from View.set_slice_whole _ _, ← lo_hi_cover]
  exact pointsTo_union lo_hi_disjoint

/-- Row block `d` of the buffer that is sent by rows, at contents `f` of the buffer. -/
abbrev pRowPts (c d : Dev nD) (f : Buf (Elt F) ((c : Thread nD τ).loc cc0_scratch1)) : sProp 𝕄 :=
  (pRow d).view.loc (c : Thread nD τ) ↦[(pRow d).view.set]{fullShare} f

theorem p_rows (c : Dev nD) (f : Buf (Elt F) ((c : Thread nD τ).loc cc0_scratch1)) :
    (((c : Thread nD τ).loc cc0_scratch1) ↦{fullShare} f : sProp 𝕄)
      = iprop(pRowPts c c f ∗ pRowPts c (pY c) f ∗ pRowPts c (pX c) f ∗ pRowPts c (pD c) f) := by
  rw [← sep_around c fun d => pRowPts c d f]
  have h : ∀ d, (pRowPts c d f : sProp 𝕄) = (((c : Thread nD τ).loc cc0_scratch1) ↦[(rowR d).set]{fullShare} f) := fun d => by
    unfold pRowPts; rw [show (pRow d).view.set = (rowR d).set from View.set_slice_whole _ _]
  rw [bigSep_congr fun d _ => h d, ← rows_cover]
  exact pointsTo_biUnion _ _ fun i _ j _ h => rows_disjoint i j h

end Cert.KernelIdeal.Hand

end
-- ==== Proof.Ideal.Contents.lean ====
/-
# What each buffer holds

The values the kernel computes, as functions of the inputs of all four devices. `P0`, `P1`, `P2` are a device's partial
products of the three layers (its block of the hidden columns); `A` adds the first exchange's partner, `B` the second
one's: after both, every device holds the sum over the four devices. `out` is the row block of the last layer.
-/
module

public import proofs.«01_k».proof.Proof.Ideal.Mesh
public import Idealize.ShloMosaic.Lib.ViewIndex

@[expose] public section

noncomputable section

namespace Cert.KernelIdeal.Hand

open Cert.KernelIdeal Cert.KernelIdeal.Gen

open Idealize.ShloMosaic
open Idealize.ShloMosaic.TcCoe

variable {F : FTy → Type} [FloatOps F]

/-- The inputs of the four devices: a row block of `x`, and per layer a column block of the first weight and a row block
    of the second. -/
structure Inputs (F : FTy → Type) where
  x : Dev nD → Vec F S64x512 .f32
  u0 : Dev nD → Vec F S512x1024 .f32
  v0 : Dev nD → Vec F S1024x512 .f32
  u1 : Dev nD → Vec F S512x1024 .f32
  v1 : Dev nD → Vec F S1024x512 .f32
  u2 : Dev nD → Vec F S512x1024 .f32
  v2 : Dev nD → Vec F S1024x512 .f32

/-- The array whose row block `d` is `g d`. -/
def stack (g : Dev nD → Vec F S64x512 .f32) : Vec F S256x512 .f32 := fun i =>
  g (rowDev i) fun a => match a with
    | ⟨0, _⟩ => ⟨(i 0).val % 64, Nat.mod_lt _ (by decide)⟩
    | ⟨1, _⟩ => i 1

/-- The array whose first half is `a` and whose second half is `b`. -/
def glue (a b : Vec F S128x512 .f32) : Vec F S256x512 .f32 := fun i =>
  if h : (i 0).val < 128 then a fun k => match k with
    | ⟨0, _⟩ => ⟨(i 0).val, h⟩
    | ⟨1, _⟩ => i 1
  else b fun k => match k with
    | ⟨0, _⟩ => ⟨(i 0).val - 128, by have : (i 0).val < 256 := (i 0).isLt; show (i 0).val - 128 < 128; omega⟩
    | ⟨1, _⟩ => i 1

theorem rowR_emb0 (d : Dev nD) (j : S64x512.Idx) : (((rowR d).emb j) 0).val = 64 * d.val + (j 0).val := by
  show 64 * d.val + 1 * (j 0).val = _; rw [Nat.one_mul]
theorem rowR_emb1 (d : Dev nD) (j : S64x512.Idx) : (((rowR d).emb j) 1).val = (j 1).val := by
  show 0 + 1 * (j 1).val = _; rw [Nat.one_mul, Nat.zero_add]
theorem loR_emb0 (j : S128x512.Idx) : ((loR.emb j) 0).val = (j 0).val := by
  show 0 + 1 * (j 0).val = _; rw [Nat.one_mul, Nat.zero_add]
theorem loR_emb1 (j : S128x512.Idx) : ((loR.emb j) 1).val = (j 1).val := by
  show 0 + 1 * (j 1).val = _; rw [Nat.one_mul, Nat.zero_add]
theorem hiR_emb0 (j : S128x512.Idx) : ((hiR.emb j) 0).val = 128 + (j 0).val := by
  show 128 + 1 * (j 0).val = _; rw [Nat.one_mul]
theorem hiR_emb1 (j : S128x512.Idx) : ((hiR.emb j) 1).val = (j 1).val := by
  show 0 + 1 * (j 1).val = _; rw [Nat.one_mul, Nat.zero_add]

theorem rows_stack (g : Dev nD → Vec F S64x512 .f32) (d : Dev nD) : rows d (stack g) = g d := funext fun j => by
  have hj : (j 0).val < 64 := (j 0).isLt
  have h0 := rowR_emb0 d j
  have hd : rowDev ((rowR d).emb j) = d := Fin.ext (by show (((rowR d).emb j) 0).val / 64 = _; rw [h0]; omega)
  show g (rowDev ((rowR d).emb j)) _ = g d j
  rw [hd]
  refine congrArg (g d) (funext fun a => ?_)
  match a with
  | ⟨0, _⟩ => exact Fin.ext (show (((rowR d).emb j) 0).val % 64 = (j 0).val by rw [h0]; omega)
  | ⟨1, _⟩ => exact Fin.ext (rowR_emb1 d j)

theorem lo_glue (a b : Vec F S128x512 .f32) : lo (glue a b) = a := funext fun j => by
  have hj : (j 0).val < 128 := (j 0).isLt
  have h0 := loR_emb0 j
  unfold lo glue
  rw [dif_pos (show ((loR.emb j) 0).val < 128 by rw [h0]; exact hj)]
  refine congrArg a (funext fun k => ?_)
  match k with
  | ⟨0, _⟩ => exact Fin.ext h0
  | ⟨1, _⟩ => exact Fin.ext (loR_emb1 j)

theorem hi_glue (a b : Vec F S128x512 .f32) : hi (glue a b) = b := funext fun j => by
  have h0 := hiR_emb0 j
  unfold hi glue
  rw [dif_neg (show ¬ ((hiR.emb j) 0).val < 128 by rw [h0]; omega)]
  refine congrArg b (funext fun k => ?_)
  match k with
  | ⟨0, _⟩ => exact Fin.ext (show ((hiR.emb j) 0).val - 128 = (j 0).val by rw [h0]; omega)
  | ⟨1, _⟩ => exact Fin.ext (hiR_emb1 j)

/-- One layer on a device: the rectified product with its block of the first weight, times its block of the second. -/
def mlp (v : Vec F S256x512 .f32) (u : Vec F S512x1024 .f32) (w : Vec F S1024x512 .f32) : Vec F S256x512 .f32 := k0_pay7 v u w

/-- The two exchanges: in the first the upper half is exchanged with `pY` and the lower with `pX`, in the second the other way. -/
def stepA (v : Dev nD → Vec F S256x512 .f32) (c : Dev nD) : Vec F S256x512 .f32 :=
  glue (addf (lo (v c)) (lo (v (pY c)))) (addf (hi (v c)) (hi (v (pX c))))
def stepB (v : Dev nD → Vec F S256x512 .f32) (c : Dev nD) : Vec F S256x512 .f32 :=
  glue (addf (lo (v c)) (lo (v (pX c)))) (addf (hi (v c)) (hi (v (pY c))))

variable (I : Inputs F)

def X0 : Vec F S256x512 .f32 := stack I.x
def P0 (c : Dev nD) : Vec F S256x512 .f32 := mlp (X0 I) (I.u0 c) (I.v0 c)
def A0 (c : Dev nD) : Vec F S256x512 .f32 := stepA (P0 I) c
def X1 (c : Dev nD) : Vec F S256x512 .f32 := stepB (A0 I) c
def P1 (c : Dev nD) : Vec F S256x512 .f32 := mlp (X1 I c) (I.u1 c) (I.v1 c)
def A1 (c : Dev nD) : Vec F S256x512 .f32 := stepA (P1 I) c
def X2 (c : Dev nD) : Vec F S256x512 .f32 := stepB (A1 I) c
def P2 (c : Dev nD) : Vec F S256x512 .f32 := mlp (X2 I c) (I.u2 c) (I.v2 c)
def out (c : Dev nD) : Vec F S64x512 .f32 :=
  addf (addf (addf (rows c (P2 I c)) (rows c (P2 I (pY c)))) (rows c (P2 I (pX c)))) (rows c (P2 I (pD c)))

/-! ### The kernel's payloads are these values -/

theorem pay2_eq (v : Vec F S64x512 .f32) : k0_pay2 v = v := shapeCast_self _ _
theorem pay3_eq (v : Vec F S64x512 .f32) : k0_pay3 v = v := shapeCast_self _ _
theorem pay4_eq (v : Vec F S1x64x512 .f32) : k0_pay4 v = shapeCast S64x512 v shapeCasts_S1x64x512_S64x512 := shapeCast_self _ _
theorem pay5_eq (v : Vec F S1x64x512 .f32) : k0_pay5 v = shapeCast S64x512 v shapeCasts_S1x64x512_S64x512 := shapeCast_self _ _
theorem pay6_eq (v : Vec F S1x64x512 .f32) : k0_pay6 v = shapeCast S64x512 v shapeCasts_S1x64x512_S64x512 := shapeCast_self _ _
theorem pay8_eq (v : Vec F S256x512 .f32) : k0_pay8 v = v := shapeCast_self _ _
theorem pay13_eq (v : Vec F S256x512 .f32) (u : Vec F S512x1024 .f32) (w : Vec F S1024x512 .f32) : k0_pay13 v u w = mlp v u w := shapeCast_self _ _
theorem pay19_eq (v : Vec F S256x512 .f32) (u : Vec F S512x1024 .f32) (w : Vec F S1024x512 .f32) : k0_pay19 v u w = mlp v u w := shapeCast_self _ _
theorem pay9_eq (a : Vec F S128x512 .f32) (b : Vec F S1x128x512 .f32) : k0_pay9 a b = addf a (shapeCast S128x512 b shapeCasts_S1x128x512_S128x512) := shapeCast_self _ _
theorem pay10_eq (a : Vec F S128x512 .f32) (b : Vec F S1x128x512 .f32) : k0_pay10 a b = addf a (shapeCast S128x512 b shapeCasts_S1x128x512_S128x512) := shapeCast_self _ _
theorem pay11_eq (a : Vec F S128x512 .f32) (b : Vec F S1x128x512 .f32) : k0_pay11 a b = addf a (shapeCast S128x512 b shapeCasts_S1x128x512_S128x512) := shapeCast_self _ _
theorem pay12_eq (a : Vec F S128x512 .f32) (b : Vec F S1x128x512 .f32) : k0_pay12 a b = addf a (shapeCast S128x512 b shapeCasts_S1x128x512_S128x512) := shapeCast_self _ _
theorem pay14_eq (a : Vec F S128x512 .f32) (b : Vec F S1x128x512 .f32) : k0_pay14 a b = addf a (shapeCast S128x512 b shapeCasts_S1x128x512_S128x512) := shapeCast_self _ _
theorem pay15_eq (a : Vec F S128x512 .f32) (b : Vec F S1x128x512 .f32) : k0_pay15 a b = addf a (shapeCast S128x512 b shapeCasts_S1x128x512_S128x512) := shapeCast_self _ _
theorem pay16_eq (a : Vec F S128x512 .f32) (b : Vec F S1x128x512 .f32) : k0_pay16 a b = addf a (shapeCast S128x512 b shapeCasts_S1x128x512_S128x512) := shapeCast_self _ _
theorem pay18_eq (a : Vec F S128x512 .f32) (b : Vec F S1x128x512 .f32) : k0_pay18 a (k0_pay17 b) = addf a (shapeCast S128x512 b shapeCasts_S1x128x512_S128x512) := shapeCast_self _ _
theorem pay1_eq (a : Vec F S64x512 .f32) (b1 b2 b3 : Vec F S1x64x512 .f32) : k0_pay1 a b1 b2 b3
    = addf (addf (addf a (shapeCast S64x512 b1 shapeCasts_S1x64x512_S64x512)) (shapeCast S64x512 b2 shapeCasts_S1x64x512_S64x512)) (shapeCast S64x512 b3 shapeCasts_S1x64x512_S64x512) := rfl

/-! ### Reading a slot, and the effect of a store of a half or of a row block -/

/-- What a load of a slot gives, without its leading unit axis, is what the slot's memref reads. -/
theorem read_ag (i : Fin 3) (f : (cc0_scratch2 : Ref sig .tc).ty.Contents (Elt F)) :
    shapeCast S64x512 (agM.view.readAt (Elt F) (slot3 i).toLoadRect f) shapeCasts_S1x64x512_S64x512 = (ag i).view.read (Elt F) f := rfl
theorem read_ar (i : Fin 8) (f : (cc0_scratch3 : Ref sig .tc).ty.Contents (Elt F)) :
    shapeCast S128x512 (arM.view.readAt (Elt F) (slot8 i).toLoadRect f) shapeCasts_S1x128x512_S128x512 = (ar i).view.read (Elt F) f := rfl
theorem read_rs (i : Fin 3) (f : (cc0_scratch4 : Ref sig .tc).ty.Contents (Elt F)) :
    shapeCast S64x512 (rsM.view.readAt (Elt F) (slot3 i).toLoadRect f) shapeCasts_S1x64x512_S64x512 = (rs i).view.read (Elt F) f := rfl

theorem read_fLo (f : Vec F S256x512 .f32) : fM.view.readAt (Elt F) loR.toLoadRect f = lo f := rfl
theorem read_fHi (f : Vec F S256x512 .f32) : fM.view.readAt (Elt F) hiR.toLoadRect f = hi f := rfl
theorem read_pLo (f : Vec F S256x512 .f32) : pM.view.readAt (Elt F) loR.toLoadRect f = lo f := rfl
theorem read_pHi (f : Vec F S256x512 .f32) : pM.view.readAt (Elt F) hiR.toLoadRect f = hi f := rfl
theorem read_pRow (d : Dev nD) (f : Vec F S256x512 .f32) : pM.view.readAt (Elt F) (rowR d).toLoadRect f = rows d f := rfl

/-- The buffer after a store of its first half, of its second half, of a row block. -/
def putLo (f : Vec F S256x512 .f32) (w : Vec F S128x512 .f32) : Vec F S256x512 .f32 := (fM.access loR).write (Elt F) f w Finset.univ
def putHi (f : Vec F S256x512 .f32) (w : Vec F S128x512 .f32) : Vec F S256x512 .f32 := (fM.access hiR).write (Elt F) f w Finset.univ
def putRow (d : Dev nD) (f : Vec F S256x512 .f32) (w : Vec F S64x512 .f32) : Vec F S256x512 .f32 := (fM.access (rowR d)).write (Elt F) f w Finset.univ

theorem read_put (r : Rect S256x512) (f : Vec F S256x512 .f32) (w : r.shape.Idx → Elt F .f32) :
    (fM.access r).read (Elt F) ((fM.access r).write (Elt F) f w Finset.univ) = w := View.read_write_univ (v := fM.access r) f w
theorem read_put_ne (r r' : Rect S256x512) (h : Disjoint r.set r'.set) (f : Vec F S256x512 .f32) (w : r'.shape.Idx → Elt F .f32) :
    (fM.access r).read (Elt F) ((fM.access r').write (Elt F) f w Finset.univ) = (fM.access r).read (Elt F) f :=
  View.read_slice_write_slice_of_disjoint (v := fM.view) r r' f w Finset.univ (View.disjoint_slice (v := fM.view) h)

theorem lo_putLo (f : Vec F S256x512 .f32) (w : Vec F S128x512 .f32) : lo (putLo f w) = w := read_put loR f w
theorem hi_putHi (f : Vec F S256x512 .f32) (w : Vec F S128x512 .f32) : hi (putHi f w) = w := read_put hiR f w
theorem rows_read (d : Dev nD) (f : Vec F S256x512 .f32) : (fM.access (rowR d)).read (Elt F) f = rows d f := rfl
theorem rows_putRow (d : Dev nD) (f : Vec F S256x512 .f32) (w : Vec F S64x512 .f32) : rows d (putRow d f w) = w :=
  (rows_read d (putRow d f w)).symm.trans (by unfold putRow; exact read_put (rowR d) f w)
theorem hi_putLo (f : Vec F S256x512 .f32) (w : Vec F S128x512 .f32) : hi (putLo f w) = hi f := read_put_ne hiR loR lo_hi_disjoint.symm f w
theorem lo_putHi (f : Vec F S256x512 .f32) (w : Vec F S128x512 .f32) : lo (putHi f w) = lo f := read_put_ne loR hiR lo_hi_disjoint f w
theorem rows_putRow_ne {d d' : Dev nD} (h : d ≠ d') (f : Vec F S256x512 .f32) (w : Vec F S64x512 .f32) : rows d (putRow d' f w) = rows d f :=
  (rows_read d (putRow d' f w)).symm.trans ((by unfold putRow; exact read_put_ne (rowR d) (rowR d') (rows_disjoint d d' h) f w :
    (fM.access (rowR d)).read (Elt F) (putRow d' f w) = (fM.access (rowR d)).read (Elt F) f).trans (rows_read d f))

/-- Both halves stored: the array of the two. -/
theorem putHi_putLo (f : Vec F S256x512 .f32) (a b : Vec F S128x512 .f32) : putHi (putLo f a) b = glue a b :=
  ext_halves (by rw [lo_putHi, lo_putLo, lo_glue]) (by rw [hi_putHi, hi_glue])
/-- The four row blocks stored: the array of the four. -/
theorem putRows (c : Dev nD) (f : Vec F S256x512 .f32) (g : Dev nD → Vec F S64x512 .f32) :
    putRow (pD c) (putRow (pX c) (putRow (pY c) (putRow c f (g c)) (g (pY c))) (g (pX c))) (g (pD c)) = stack g := by
  have h := around_nodup c
  simp only [List.nodup_cons, List.mem_cons, List.not_mem_nil, or_false, not_or, List.nodup_nil, not_false_eq_true, and_true] at h
  obtain ⟨⟨h1, h2, h3⟩, ⟨h4, h5⟩, h6⟩ := h
  refine ext_rows fun d => ?_
  rw [rows_stack]
  have hd := around_all c d
  simp only [List.mem_cons, List.not_mem_nil, or_false] at hd
  rcases hd with rfl | rfl | rfl | rfl
  · rw [rows_putRow_ne h3, rows_putRow_ne h2, rows_putRow_ne h1, rows_putRow]
  · rw [rows_putRow_ne h5, rows_putRow_ne h4, rows_putRow]
  · rw [rows_putRow_ne h6, rows_putRow]
  · rw [rows_putRow]

end Cert.KernelIdeal.Hand

end
-- ==== Proof.Ideal.Protocol.lean ====
/-
# The protocol

Every semaphore cell is used for one round.

* The barrier cell of device `c`: its two neighbours each raise it by one, `c` waits for two. Raising it, a device hands
  over the slots of its landing buffers the neighbour's copies will fill. `pY c` also hands over the slot that only
  the device diagonally opposite to it fills; `c` passes that slot on to `pX c` along with its copy 1.
* Copy `k` of device `c`, for `k` from 0 to 13, goes to `peer k c`. Its send cell on `c` returns the source with the
  contents it had; its receive cell, on the peer, hands over the slot with the contents copied.

| copies | from | into | contents |
| 0, 1, 2 | `x`, `x`, slot 0 | slots 0, 1, 2 of the gathered inputs | the row blocks of `x` of `pY`, `pX`, `pD` |
| 3, 4 | the halves of the partial product | slots 0, 1 | the halves of `P0` |
| 5, 6 | the halves of the sum so far | slots 2, 3 | the halves of `A0` |
| 7, 8 and 9, 10 | the same, second layer | slots 4 to 7 | the halves of `P1`, of `A1` |
| 11, 12, 13 | row blocks of the partial product | slots 0, 1, 2 of the last landing buffer | row blocks of `P2` |

A device waits for copy `k` only when it owes nothing but later copies, so the levels are the copies' numbers.
-/
module

public import proofs.«01_k».proof.Proof.Ideal.Contents

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells -/

/-- The barrier semaphore, and the two semaphores of copy `k`. -/
abbrev barS : Sem sig := (SemArray.scalar (sig.barrier 0 rfl) : Sems sig S_).sem
def sendS (k : Fin 14) : DmaSem sig := ⟨8 + k.val, by have := k.isLt; show 8 + k.val < 36; omega⟩
def recvS (k : Fin 14) : DmaSem sig := ⟨22 + k.val, by have := k.isLt; show 22 + k.val < 36; omega⟩

abbrev barCell (c : Dev nD) : GSem nD τ sig := ((c : Thread nD τ), .reg barS)
abbrev sendCell (c : Dev nD) (k : Fin 14) : GSem nD τ sig := ((c : Thread nD τ), .dma (sendS k))
abbrev recvCell (c : Dev nD) (k : Fin 14) : GSem nD τ sig := ((c : Thread nD τ), .dma (recvS k))

/-- The cells of one device: the barrier's, the send cells, the receive cells. -/
abbrev Cell : Type := Unit ⊕ (Fin 14 ⊕ Fin 14)
def csem : Cell → SemLoc sig
  | .inl _ => .reg barS
  | .inr (.inl k) => .dma (sendS k)
  | .inr (.inr k) => .dma (recvS k)
abbrev kcell (p : Dev nD × Cell) : GSem nD τ sig := ((p.1 : Thread nD τ), csem p.2)

/-- Whom copy `k` goes to. -/
def peer (k : ℕ) : Dev nD → Dev nD := match k with
  | 0 => pY | 1 => pX | 2 => pX | 3 => pY | 4 => pX | 5 => pX | 6 => pY | 7 => pY | 8 => pX | 9 => pX | 10 => pY | 11 => pY | 12 => pX
  | _ => pD

theorem peer_peer (k : Fin 14) (c : Dev nD) : peer k (peer k c) = c := by revert k c; decide

/-- The credit of a copy of 64 rows, of one of 128 rows, and of copy `k`. -/
def N64 : ℕ := (ag 0).view.dmaCredit
def N128 : ℕ := (ar 0).view.dmaCredit
def amt (k : ℕ) : ℕ := if k < 3 ∨ 11 ≤ k then N64 else N128

theorem N64_pos : 0 < N64 := View.dmaCredit_pos _ (by decide)
theorem N128_pos : 0 < N128 := View.dmaCredit_pos _ (by decide)
theorem amt_pos (k : ℕ) : 0 < amt k := by unfold amt; split; exacts [N64_pos, N128_pos]

/-! ## What is handed over -/

/-- What device `e` hands `pY e`, and what it hands `pX e`, when it raises their barrier cells. -/
def giveY (e : Dev nD) : sProp 𝕄 :=
  iprop(room e (ag 0) ∗ room e (ar 0) ∗ room e (ar 3) ∗ room e (ar 4) ∗ room e (ar 7) ∗ room e (rs 0) ∗ room e (rs 2))
def giveX (e : Dev nD) : sProp 𝕄 :=
  iprop(room e (ag 1) ∗ room e (ag 2) ∗ room e (ar 1) ∗ room e (ar 2) ∗ room e (ar 5) ∗ room e (ar 6) ∗ room e (rs 1))

/-- Device `c` owns a piece of one of its buffers, at contents `f` of that buffer. -/
def piece (c : Dev nD) {s : Shape} (M : Memref sig .tc .vmem s .f32) (q : PosShare TreeShare) (f : Buf (Elt F) (M.view.loc (c : Thread nD τ))) : sProp 𝕄 :=
  M.view.loc (c : Thread nD τ) ↦[M.view.set]{q} f

instance piece_storable (c : Dev nD) {s : Shape} (M : Memref sig .tc .vmem s .f32) (q : PosShare TreeShare) (f : Buf (Elt F) (M.view.loc (c : Thread nD τ))) :
    BI.Storable (upEmb : UEmb _ 𝕄) (piece (F := F) c M q f) := by unfold piece; infer_instance

variable (I : Inputs F)

/-- What the send cell of copy `k` returns to device `c`. -/
def sendPay (c : Dev nD) (k : ℕ) : sProp 𝕄 := match k with
  | 0 => piece c xM fullShare.left (I.x c)
  | 1 => piece c xM fullShare.right (I.x c)
  | 2 => held c (ag 0) (I.x (pY c))
  | 3 => piece c pLo fullShare (P0 I c)
  | 4 => piece c pHi fullShare (P0 I c)
  | 5 => piece c fLo fullShare (A0 I c)
  | 6 => piece c fHi fullShare (A0 I c)
  | 7 => piece c pLo fullShare (P1 I c)
  | 8 => piece c pHi fullShare (P1 I c)
  | 9 => piece c fLo fullShare (A1 I c)
  | 10 => piece c fHi fullShare (A1 I c)
  | 11 => piece c (pRow (pY c)) fullShare (P2 I c)
  | 12 => piece c (pRow (pX c)) fullShare (P2 I c)
  | 13 => piece c (pRow (pD c)) fullShare (P2 I c)
  | _ => iprop(emp)

/-- What the receive cell of copy `k` hands device `c`. -/
def recvPay (c : Dev nD) (k : ℕ) : sProp 𝕄 := match k with
  | 0 => held c (ag 0) (I.x (pY c))
  | 1 => iprop(held c (ag 1) (I.x (pX c)) ∗ room (pD c) (rs 2))
  | 2 => held c (ag 2) (I.x (pD c))
  | 3 => held c (ar 0) (lo (P0 I (pY c)))
  | 4 => held c (ar 1) (hi (P0 I (pX c)))
  | 5 => held c (ar 2) (lo (A0 I (pX c)))
  | 6 => held c (ar 3) (hi (A0 I (pY c)))
  | 7 => held c (ar 4) (lo (P1 I (pY c)))
  | 8 => held c (ar 5) (hi (P1 I (pX c)))
  | 9 => held c (ar 6) (lo (A1 I (pX c)))
  | 10 => held c (ar 7) (hi (A1 I (pY c)))
  | 11 => held c (rs 0) (rows c (P2 I (pY c)))
  | 12 => held c (rs 1) (rows c (P2 I (pX c)))
  | 13 => held c (rs 2) (rows c (P2 I (pD c)))
  | _ => iprop(emp)

instance giveY_storable (e : Dev nD) : BI.Storable (upEmb : UEmb _ 𝕄) (giveY (F := F) e) := by unfold giveY; infer_instance
instance giveX_storable (e : Dev nD) : BI.Storable (upEmb : UEmb _ 𝕄) (giveX (F := F) e) := by unfold giveX; infer_instance
instance sendPay_storable (c : Dev nD) (k : ℕ) : BI.Storable (upEmb : UEmb _ 𝕄) (sendPay I c k) := by
  unfold sendPay; split <;> infer_instance
instance recvPay_storable (c : Dev nD) (k : ℕ) : BI.Storable (upEmb : UEmb _ 𝕄) (recvPay I c k) := by
  unfold recvPay; split <;> infer_instance

/-- What is handed over with duty `d` of a cell's round. -/
def pay (c : Dev nD) (sm : SemLoc sig) (d : Bool) : sProp 𝕄 := match sm with
  | .reg _ => if d then giveX (pX c) else giveY (pY c)
  | .dma q => if 22 ≤ q.val then recvPay I c (q.val - 22) else sendPay I c (q.val - 8)

/-- The duties of a cell: the barrier's two, one of a copy's semaphore, none of any other's. -/
def duty (sm : SemLoc sig) : Finset Bool := match sm with
  | .reg _ => Finset.univ
  | .dma q => if 8 ≤ q.val then {false} else ∅

/-- The units of a cell's duty. -/
def units (sm : SemLoc sig) : ℕ := match sm with
  | .reg _ => 1
  | .dma q => amt (if 22 ≤ q.val then q.val - 22 else q.val - 8)

/-- The schedule: one round of every cell. -/
def Rd : Rounds.Schedule (GSem nD τ sig) Bool 𝕄 where
  duties g r := if r = 0 then duty g.2 else ∅
  unitless _ := False
  amount g _ _ := units g.2
  payload g _ d := pay I g.1.1 g.2 d
  amount_pos g _ _ _ := by
    unfold units; split
    · exact Nat.one_pos
    · exact amt_pos _

instance Rd_storable (g : GSem nD τ sig) (r : ℕ) (d : Bool) : BI.Storable (upEmb : UEmb _ 𝕄) ((Rd I).payload g r d) := by
  show BI.Storable upEmb (pay I g.1.1 g.2 d)
  unfold pay
  (repeat' split) <;> infer_instance

/-! ### The schedule at each kind of cell -/

theorem duties_bar (c : Dev nD) : (Rd I).duties (barCell c) 0 = Finset.univ := rfl
theorem duties_send (c : Dev nD) (k : Fin 14) : (Rd I).duties (sendCell c k) 0 = {false} :=
  show (if 8 ≤ 8 + k.val then ({false} : Finset Bool) else ∅) = _ from if_pos (Nat.le_add_right _ _)
theorem duties_recv (c : Dev nD) (k : Fin 14) : (Rd I).duties (recvCell c k) 0 = {false} :=
  show (if 8 ≤ 22 + k.val then ({false} : Finset Bool) else ∅) = _ from if_pos (by omega)
theorem duties_later (g : GSem nD τ sig) : ∀ r, 1 ≤ r → (Rd I).duties g r = ∅ := fun r hr => by
  show (if r = 0 then duty g.2 else ∅) = _
  rw [if_neg (by omega)]

theorem amount_bar (c : Dev nD) (d : Bool) : (Rd I).amount (barCell c) 0 d = 1 := rfl
theorem amount_send (c : Dev nD) (k : Fin 14) (d : Bool) : (Rd I).amount (sendCell c k) 0 d = amt k := by
  show amt (if 22 ≤ 8 + k.val then 8 + k.val - 22 else 8 + k.val - 8) = amt k
  rw [if_neg (by have := k.isLt; omega), Nat.add_sub_cancel_left]
theorem amount_recv (c : Dev nD) (k : Fin 14) (d : Bool) : (Rd I).amount (recvCell c k) 0 d = amt k := by
  show amt (if 22 ≤ 22 + k.val then 22 + k.val - 22 else 22 + k.val - 8) = amt k
  rw [if_pos (Nat.le_add_right _ _), Nat.add_sub_cancel_left]

theorem expect_bar (c : Dev nD) : (Rd I).expect (barCell c) 0 = 2 := by
  unfold Schedule.expect Schedule.amountOf
  rw [duties_bar, Finset.sum_congr rfl fun d _ => amount_bar I c d, Finset.sum_const, Finset.card_univ, Fintype.card_bool, smul_eq_mul]
theorem expect_send (c : Dev nD) (k : Fin 14) : (Rd I).expect (sendCell c k) 0 = amt k := by
  unfold Schedule.expect Schedule.amountOf; rw [duties_send, Finset.sum_singleton, amount_send]
theorem expect_recv (c : Dev nD) (k : Fin 14) : (Rd I).expect (recvCell c k) 0 = amt k := by
  unfold Schedule.expect Schedule.amountOf; rw [duties_recv, Finset.sum_singleton, amount_recv]

theorem payload_bar_true (c : Dev nD) : (Rd I).payload (barCell c) 0 true = giveX (pX c) := rfl
theorem payload_bar_false (c : Dev nD) : (Rd I).payload (barCell c) 0 false = giveY (pY c) := rfl
theorem payload_send (c : Dev nD) (k : Fin 14) (d : Bool) : (Rd I).payload (sendCell c k) 0 d = sendPay I c k := by
  show (if 22 ≤ 8 + k.val then recvPay I c (8 + k.val - 22) else sendPay I c (8 + k.val - 8)) = _
  rw [if_neg (by have := k.isLt; omega), Nat.add_sub_cancel_left]
theorem payload_recv (c : Dev nD) (k : Fin 14) (d : Bool) : (Rd I).payload (recvCell c k) 0 d = recvPay I c k := by
  show (if 22 ≤ 22 + k.val then recvPay I c (22 + k.val - 22) else sendPay I c (22 + k.val - 8)) = _
  rw [if_pos (Nat.le_add_right _ _), Nat.add_sub_cancel_left]

/-- All that a round hands over. -/
theorem rest_bar (c : Dev nD) : bigSep ((Rd I).duties (barCell c) 0 \ ∅) (fun d => (Rd I).payload (barCell c) 0 d)
    = iprop(giveY (pY c) ∗ giveX (pX c)) := by
  rw [Finset.sdiff_empty, duties_bar, bigSep_univ_eq_bigSepL [false, true] (by decide) (by decide), bigSepL_cons_cons, bigSepL_singleton,
    payload_bar_false, payload_bar_true]
  rfl
theorem rest_send (c : Dev nD) (k : Fin 14) : bigSep ((Rd I).duties (sendCell c k) 0 \ ∅) (fun d => (Rd I).payload (sendCell c k) 0 d) = sendPay I c k := by
  rw [Finset.sdiff_empty, duties_send, bigSep_singleton, payload_send]
theorem rest_recv (c : Dev nD) (k : Fin 14) : bigSep ((Rd I).duties (recvCell c k) 0 \ ∅) (fun d => (Rd I).payload (recvCell c k) 0 d) = recvPay I c k := by
  rw [Finset.sdiff_empty, duties_recv, bigSep_singleton, payload_recv]

/-! ## What a device owes, and the levels -/

/-- What device `c` owes for copy `k`. -/
def due (c : Dev nD) (k : Fin 14) : CellTallies nD τ sig Unit := tallyAt (recvCell (peer k c) k) () (amt k)

/-- What device `c` owes once it has started the copies before `n`. -/
def owed (c : Dev nD) (n : ℕ) : CellTallies nD τ sig Unit := ∑ k ∈ Finset.univ.filter (fun k : Fin 14 => n ≤ k.val), due c k

theorem owed_step (c : Dev nD) (k : Fin 14) : owed c k.val = owed c (k.val + 1) + due c k := by
  unfold owed
  rw [show Finset.univ.filter (fun j : Fin 14 => k.val ≤ j.val) = insert k (Finset.univ.filter fun j : Fin 14 => k.val + 1 ≤ j.val) from by
    ext j; simp only [Finset.mem_filter, Finset.mem_univ, true_and, Finset.mem_insert, Fin.ext_iff]; omega]
  rw [Finset.sum_insert (by simp only [Finset.mem_filter, Finset.mem_univ, true_and]; omega), add_comm]
theorem owed_end (c : Dev nD) : owed c 14 = 0 := by
  unfold owed
  rw [Finset.filter_false_of_mem fun k _ => by have := k.isLt; omega, Finset.sum_empty]

/-- At launch: the copies and one unit on each neighbour's barrier cell. -/
def O₁ (c : Dev nD) : CellTallies nD τ sig Unit := owed c 0 + tallyAt (barCell (pX c)) () 1
def O₀ (c : Dev nD) : CellTallies nD τ sig Unit := O₁ c + tallyAt (barCell (pY c)) () 1

def L (g : GSem nD τ sig) : Finset Unit := if g.1.2 = .tc then {()} else ∅
/-- Barrier cells at 1, the receive cell of copy `k` at `k + 2`, all others at 0. -/
def lv (g : GSem nD τ sig) (_ : Unit) : ℕ := match g.2 with
  | .reg _ => 1
  | .dma q => if 22 ≤ q.val then q.val - 20 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _

theorem lv_bar (c : Dev nD) (u : Unit) : lv (barCell c) u = 1 := rfl
theorem lv_send (c : Dev nD) (k : Fin 14) (u : Unit) : lv (sendCell c k) u = 0 :=
  show (if 22 ≤ 8 + k.val then 8 + k.val - 20 else 0) = 0 from if_neg (by have := k.isLt; omega)
theorem lv_recv (c : Dev nD) (k : Fin 14) (u : Unit) : lv (recvCell c k) u = k.val + 2 :=
  (show (if 22 ≤ 22 + k.val then 22 + k.val - 20 else 0) = 22 + k.val - 20 from if_pos (by omega)).trans (by omega)

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem owed_pos {c : Dev nD} {n : ℕ} {g : GSem nD τ sig} {u : Unit} (h : 0 < owed c n g u) :
    ∃ k : Fin 14, n ≤ k.val ∧ g = recvCell (peer k c) k := by
  unfold owed at h
  rw [Finset.sum_apply, Finsupp.finsetSum_apply] at h
  obtain ⟨k, hk, h'⟩ := Finset.exists_ne_zero_of_sum_ne_zero h.ne'
  exact ⟨k, (Finset.mem_filter.mp hk).2, tallyAt_pos (Nat.pos_of_ne_zero h')⟩

theorem O₀_pos {c : Dev nD} {g : GSem nD τ sig} {u : Unit} (h : 0 < O₀ c g u) :
    (∃ k : Fin 14, g = recvCell (peer k c) k) ∨ g = barCell (pX c) ∨ g = barCell (pY c) := by
  unfold O₀ O₁ at h
  rw [Pi.add_apply, Finsupp.add_apply, Pi.add_apply, Finsupp.add_apply] at h
  rcases Nat.pos_of_ne_zero h.ne' |> fun h => (by omega : 0 < owed c 0 g u ∨ 0 < (tallyAt (barCell (pX c)) () 1 : CellTallies nD τ sig Unit) g u
      ∨ 0 < (tallyAt (barCell (pY c)) () 1 : CellTallies nD τ sig Unit) g u) with h | h | h
  · obtain ⟨k, -, e⟩ := owed_pos h; exact .inl ⟨k, e⟩
  · exact .inr (.inl (tallyAt_pos h))
  · exact .inr (.inr (tallyAt_pos h))

/-- A device may wait at a cell whose level is below those of the copies it still owes. -/
theorem mayWait_owed (c : Dev nD) (sm : SemLoc sig) (n b : ℕ) (hb : lv ((c : Thread nD τ), sm) () ≤ b) (hn : b < n + 2) :
    (levAts L lv : sProp 𝕄) ⊢ MayWait (c : Thread nD τ) sm () (owed c n) :=
  MayOwe.of_cut (L := L) (lev := lv) b (fun p hp => by rw [Finset.mem_singleton.mp hp]; exact mem_L c sm ())
    (fun g u hg => by obtain ⟨k, -, rfl⟩ := owed_pos hg; exact mem_L _ _ _)
    (fun p hp => by rw [Finset.mem_singleton.mp hp]; exact hb)
    (fun g u hg => by obtain ⟨k, hk, rfl⟩ := owed_pos hg; rw [lv_recv]; omega)

/-- At a cell of level 0 it may wait whatever it owes. -/
theorem mayWait_stage (c : Dev nD) (q : DmaSem sig) (hq : q.val < 22) (O : CellTallies nD τ sig Unit) (hO : O = O₀ c ∨ O = 0) :
    (levAts L lv : sProp 𝕄) ⊢ MayWait (c : Thread nD τ) (.dma q) () O := by
  have h0 : lv ((c : Thread nD τ), .dma q) () = 0 := show (if 22 ≤ q.val then q.val - 20 else 0) = 0 from if_neg (by omega)
  rcases hO with rfl | rfl
  · refine MayOwe.of_cut (L := L) (lev := lv) 0 (fun p hp => by rw [Finset.mem_singleton.mp hp]; exact mem_L c _ ())
      (fun g u hg => by rcases O₀_pos hg with ⟨k, rfl⟩ | rfl | rfl <;> exact mem_L _ _ _)
      (fun p hp => by rw [Finset.mem_singleton.mp hp]; exact h0.le)
      (fun g u hg => by
        rcases O₀_pos hg with ⟨k, rfl⟩ | rfl | rfl
        · rw [lv_recv]; omega
        · rw [lv_bar]; exact Nat.one_pos
        · rw [lv_bar]; exact Nat.one_pos)
  · rw [MayWait_zero]; iintro -; iempintro

end Cert.KernelIdeal.Hand

end
-- ==== Proof.Ideal.Steps.lean ====
/-
# One effect at a time

The rules the body is run by: starting copy `k`, waiting for it at its sender and at its receiver, raising and waiting at
the barrier, loading and storing. A copy's resources on a device go through four states: `fresh`, `flight`, `half` (the
source is back), `done` (the slot has been filled).
-/
module

public import proofs.«01_k».proof.Proof.Ideal.Protocol

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F) (K : Dev nD × Cell → ℕ)

/-! ## The facts every step may use -/

/-- The cells' invariants, that each cell's round is open, and the levels. -/
def laws : sProp 𝕄 :=
  iprop((bigSep Finset.univ fun p : Dev nD × Cell => cellInv ER (Rd I) (K p) (kcell p))
    ∗ (bigSep Finset.univ fun p : Dev nD × Cell => reached ER (kcell p) 0) ∗ levAts L lv)

instance laws_persistent : BI.Persistent (laws (F := F) I K) := by unfold laws; infer_instance

theorem laws_inv (p : Dev nD × Cell) : laws (F := F) I K ⊢ cellInv ER (Rd I) (K p) (kcell p) := by
  unfold laws; exact sep_elim_left.trans (bigSep_elim (Finset.mem_univ p))
theorem laws_reached (p : Dev nD × Cell) : laws (F := F) I K ⊢ reached ER (kcell p) 0 := by
  unfold laws; exact sep_elim_right.trans (sep_elim_left.trans (bigSep_elim (Finset.mem_univ p)))
theorem laws_lev : laws (F := F) I K ⊢ levAts L lv := by unfold laws; iintro ⟨-, -, H⟩; iexact H

/-- Device `c` has started the copies before `n`. -/
def owing (c : Dev nD) (n : ℕ) : sProp 𝕄 := iprop(∃ W, owes (c : Thread nD τ) (owed c n) W)

/-- Copy `k` of device `c` has not started. -/
def fresh (c : Dev nD) (k : Fin 14) : sProp 𝕄 :=
  iprop(dutyTok ER (sendCell c k) 0 false ∗ dutyTok ER (recvCell (peer k c) k) 0 false
    ∗ atPos ER (sendCell c k) 0 ∅ 0 ∗ atPos ER (recvCell c k) 0 ∅ 0 ∗ cred (tallyAt (recvCell c k) () (amt k)))
/-- It has been started. -/
def flight (c : Dev nD) (k : Fin 14) : sProp 𝕄 :=
  iprop(cred (tallyAt (sendCell c k) () (amt k))
    ∗ atPos ER (sendCell c k) 0 ∅ 0 ∗ atPos ER (recvCell c k) 0 ∅ 0 ∗ cred (tallyAt (recvCell c k) () (amt k)))
/-- Its source is back. -/
def half (c : Dev nD) (k : Fin 14) : sProp 𝕄 :=
  iprop(semVal (sendCell c k) 0 ∗ atPos ER (recvCell c k) 0 ∅ 0 ∗ cred (tallyAt (recvCell c k) () (amt k)))
/-- The copy `k` that device `c` receives has landed too. -/
def done (c : Dev nD) (k : Fin 14) : sProp 𝕄 := iprop(semVal (sendCell c k) 0 ∗ semVal (recvCell c k) 0)

/-! ## Copies -/

/-- Starting copy `k` of device `c`, handing over `Fr` besides. -/
theorem send_step_with {α : Type} {Q : α → sProp 𝕄} {cont : PUnit → Prog (TpuEff nD τ sig (Elt F) Λ₀ .tc) α}
    (c : Dev nD) (k : Fin 14) {m m' : ℕ} (hm : k.val = m) (hm' : k.val + 1 = m') {e n : Dev nD} (he : peer k c = e) (hn : n = peer k c) {sS sR : DmaSem sig} (hS : sS = sendS k) (hR : sR = recvS k)
    {s : Shape} {src dst : Memref sig .tc .vmem s .f32}
    {hsc : (dst : Memref sig (Dev.tc n : Thread nD τ).2.kind .vmem s .f32).view.ref.isScScratch = false}
    {hsrc : src.view.WordExact} {hdst : dst.view.WordExact}
    {hsem : DmaTarget.Typed .vmem (.dma sR) (.remote (Dev.tc n : Thread nD τ) (dst : Memref sig .tc .vmem s .f32) (.dma sS) hsc)}
    (hN : dst.view.dmaCredit = amt k) {q : PosShare TreeShare} {fs : Buf (Elt F) (src.view.loc (c : Thread nD τ))} {Fr : sProp 𝕄}
    (hpay₁ : piece c src q fs ⊢ sendPay I c k) (hpay₂ : iprop(held (peer k c) dst (src.view.read (Elt F) fs) ∗ Fr) ⊢ recvPay I (peer k c) k) :
    laws I K ⊢ iprop(fresh c k -∗ piece c src q fs -∗ room e dst -∗ Fr -∗ owing c m
          -∗ (flight c k -∗ owing c m' -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) cont) Q) := by
  subst hn hS hR he hm hm'
  unfold fresh room owing flight
  unfold piece at hpay₁ ⊢
  iintro #Hl ⟨HtS, HtR, HaS, HaR, Hc⟩ Hsrc ⟨%fd, Hdst⟩ HF ⟨%W, HO⟩ Hk
  ihave #HiS := (laws_inv I K (c, .inr (.inl k))) $$ Hl
  ihave #HiR := (laws_inv I K (peer k c, .inr (.inr k))) $$ Hl
  ihave #HrS := (laws_reached I K (c, .inr (.inl k))) $$ Hl
  ihave #HrR := (laws_reached I K (peer k c, .inr (.inr k))) $$ Hl
  iapply (Rounds.wp_send_pointsTo_with 𝒱₀ ER (Rd I) (c : Thread nD τ) none (κ₁ := K (c, .inr (.inl k))) (κ₂ := K (peer k c, .inr (.inr k)))
    (sS := .dma (sendS k)) (sem := .dma (recvS k)) (r₁ := 0) (r₂ := 0) (d₁ := false) (d₂ := false) (fd := fd) (fs := fs) (q := q) (F := Fr)
    (by rw [duties_send]; exact Finset.mem_singleton_self _) (by rw [duties_recv]; exact Finset.mem_singleton_self _)
    () () (amt k) hN (amount_send I c k false) (amount_recv I (peer k c) k false) (owed c (k.val + 1)) (owed_step c k) (W := W)
    (by rw [payload_send]; exact hpay₁)
    (by rw [payload_recv]; exact (sep_mono_left (landed (peer k c) dst fd _)).trans hpay₂)) $$ [HtS HtR Hsrc Hdst HF HO]
  · isplitr; · iexact HiS
    isplitr; · iexact HiR
    isplitl [Hsrc]; · iexact Hsrc
    isplitl [Hdst HF]
    · isplitl [Hdst]; · iexact Hdst
      iexact HF
    isplitl [HO]; · iexact HO
    isplitl [HtS]; · iexact HtS
    isplitr; · iexact HrS
    isplitl [HtR]; · iexact HtR
    iexact HrR
  iintro ⟨HcS, HO⟩
  iapply Hk $$ [HcS HaS HaR Hc] [HO]
  · isplitl [HcS]; · iexact HcS
    isplitl [HaS]; · iexact HaS
    isplitl [HaR]; · iexact HaR
    iexact Hc
  iexists W; iexact HO

/-- The same, handing over nothing besides. -/
theorem send_step {α : Type} {Q : α → sProp 𝕄} {cont : PUnit → Prog (TpuEff nD τ sig (Elt F) Λ₀ .tc) α}
    (c : Dev nD) (k : Fin 14) {m m' : ℕ} (hm : k.val = m) (hm' : k.val + 1 = m') {e n : Dev nD} (he : peer k c = e) (hn : n = peer k c) {sS sR : DmaSem sig} (hS : sS = sendS k) (hR : sR = recvS k)
    {s : Shape} {src dst : Memref sig .tc .vmem s .f32}
    {hsc : (dst : Memref sig (Dev.tc n : Thread nD τ).2.kind .vmem s .f32).view.ref.isScScratch = false}
    {hsrc : src.view.WordExact} {hdst : dst.view.WordExact}
    {hsem : DmaTarget.Typed .vmem (.dma sR) (.remote (Dev.tc n : Thread nD τ) (dst : Memref sig .tc .vmem s .f32) (.dma sS) hsc)}
    (hN : dst.view.dmaCredit = amt k) {q : PosShare TreeShare} {fs : Buf (Elt F) (src.view.loc (c : Thread nD τ))}
    (hpay₁ : piece c src q fs ⊢ sendPay I c k) (hpay₂ : held (peer k c) dst (src.view.read (Elt F) fs) ⊢ recvPay I (peer k c) k) :
    laws I K ⊢ iprop(fresh c k -∗ piece c src q fs -∗ room e dst -∗ owing c m
          -∗ (flight c k -∗ owing c m' -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) cont) Q) := by
  iintro #Hl Hf Hs Hd HO
  iapply (send_step_with I K c k hm hm' he hn hS hR hN (Fr := iprop(emp)) hpay₁ ((sep_emp (PROP := sProp 𝕄)).1.trans hpay₂)) $$ Hl Hf Hs Hd [] HO
  iempintro

/-- Waiting for the source of copy `k`, with the copies before `m` started. -/
theorem wait_send {α : Type} {Q : α → sProp 𝕄} {cont : PUnit → Prog (TpuEff nD τ sig (Elt F) Λ₀ .tc) α}
    (c : Dev nD) (k : Fin 14) (m : ℕ) {sm : DmaSem sig} (hS : sm = sendS k)
    {s s' : Shape} {src : Memref sig .tc .vmem s' .f32} {dst : Memref sig .tc .vmem s .f32} {hsrc : src.view.WordExact} {hdst : dst.view.WordExact}
    (hN : dst.view.dmaCredit = amt k) {P : sProp 𝕄} (hP : sendPay I c k = P) :
    laws I K ⊢ iprop(flight c k -∗ owing c m
          -∗ (half c k -∗ P -∗ owing c m -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 sm src dst hsrc hdst) cont) Q) := by
  subst hS hP
  unfold flight half owing
  iintro #Hl ⟨HcS, HaS, HaR, Hc⟩ ⟨%W, HO⟩ Hk
  ihave #HiS := (laws_inv I K (c, .inr (.inl k))) $$ Hl
  ihave #Hlev := (laws_lev I K) $$ Hl
  iapply (Rounds.wp_wait_rest_token 𝒱₀ ER (Rd I) (c : Thread nD τ) none (κ := K (c, .inr (.inl k)))
      (wpE_waitDma2_eq 𝒱₀ (c : Thread nD τ) none Set.univ) (Set.mem_univ _) () (O := owed c m) (W := W) (R := 0) (m := 0) (T := ∅)
      (by rw [Nat.zero_add, expect_send]; exact hN)) $$ [HcS HO HaS]
  · isplitr; · iexact HiS
    isplitl [HcS]; · rw [hN]; iexact HcS
    isplitl [HO]; · iexact HO
    isplitr; · iapply (mayWait_owed c _ m 0 (lv_send c k ()).le (by omega)); iexact Hlev
    iexact HaS
  iintro ⟨HO, HaS, -, Hpay⟩
  ihave Hpay := (Entails.of_eq (rest_send I c k)) $$ Hpay
  imod (Rounds.cell_close ER (Rd I) (Set.mem_univ (K (c, .inr (.inl k)))) (fun h => h) (R := 0 + 1) (duties_later I (sendCell c k))) $$ [HaS] with HS
  · isplitr; · iexact HiS
    iexact HaS
  iapply Hk $$ [HS HaR Hc] Hpay [HO]
  · isplitl [HS]; · iexact HS
    isplitl [HaR]; · iexact HaR
    iexact Hc
  iexists _; iexact HO

/-- Waiting for the copy `k` that lands here, with the copies before `m` started, `k` among them. -/
theorem wait_recv {α : Type} {Q : α → sProp 𝕄} {cont : PUnit → Prog (TpuEff nD τ sig (Elt F) Λ₀ .tc) α}
    (c : Dev nD) (k : Fin 14) (m : ℕ) (hkm : k.val < m) {sm : DmaSem sig} (hS : sm = recvS k)
    {s s' : Shape} {src : Memref sig .tc .vmem s' .f32} {dst : Memref sig .tc .vmem s .f32} {hsrc : src.view.WordExact} {hdst : dst.view.WordExact}
    (hN : dst.view.dmaCredit = amt k) {P : sProp 𝕄} (hP : recvPay I c k = P) :
    laws I K ⊢ iprop(half c k -∗ owing c m
          -∗ (done c k -∗ P -∗ owing c m -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 sm src dst hsrc hdst) cont) Q) := by
  subst hS hP
  unfold half done owing
  iintro #Hl ⟨HS, HaR, Hc⟩ ⟨%W, HO⟩ Hk
  ihave #HiR := (laws_inv I K (c, .inr (.inr k))) $$ Hl
  ihave #Hlev := (laws_lev I K) $$ Hl
  iapply (Rounds.wp_wait_rest_token 𝒱₀ ER (Rd I) (c : Thread nD τ) none (κ := K (c, .inr (.inr k)))
      (wpE_waitDma2_eq 𝒱₀ (c : Thread nD τ) none Set.univ) (Set.mem_univ _) () (O := owed c m) (W := W) (R := 0) (m := 0) (T := ∅)
      (by rw [Nat.zero_add, expect_recv]; exact hN)) $$ [Hc HO HaR]
  · isplitr; · iexact HiR
    isplitl [Hc]; · rw [hN]; iexact Hc
    isplitl [HO]; · iexact HO
    isplitr; · iapply (mayWait_owed c _ m (k.val + 2) (lv_recv c k ()).le (by omega)); iexact Hlev
    iexact HaR
  iintro ⟨HO, HaR, -, Hpay⟩
  ihave Hpay := (Entails.of_eq (rest_recv I c k)) $$ Hpay
  imod (Rounds.cell_close ER (Rd I) (Set.mem_univ (K (c, .inr (.inr k)))) (fun h => h) (R := 0 + 1) (duties_later I (recvCell c k))) $$ [HaR] with HR
  · isplitr; · iexact HiR
    iexact HaR
  iapply Hk $$ [HS HR] Hpay [HO]
  · isplitl [HS]; · iexact HS
    iexact HR
  iexists _; iexact HO

/-! ## Loads and stores -/

/-- A load from a buffer owned whole. -/
theorem load_step {α : Type} {Q : α → sProp 𝕄} (c : Dev nD) {s : Shape} (M : Memref sig .tc .vmem s .f32) (r : Rect s)
    {hl : M.view.LoadsAt r.toLoadRect} {cont : Vec F r.shape .f32 → Prog (TpuEff nD τ sig (Elt F) Λ₀ .tc) α}
    {q : PosShare TreeShare} (f : Buf (Elt F) (M.view.loc (c : Thread nD τ))) (v : Vec F r.shape .f32) (hv : M.view.readAt (Elt F) r.toLoadRect f = v) :
    (M.view.loc (c : Thread nD τ) ↦{q} f : sProp 𝕄)
      ⊢ iprop(((M.view.loc (c : Thread nD τ) ↦{q} f) -∗ wp frame (wpE (defs₀ (F := F)) 𝒱₀ (c : Thread nD τ) none) Set.univ (cont v) Q)
          -∗ wp frame (wpE (defs₀ (F := F)) 𝒱₀ (c : Thread nD τ) none) Set.univ (.op (.load M r.toLoadRect hl) cont) Q) := by
  subst hv
  exact wp_load 𝒱₀ (c : Thread nD τ) none Set.univ (m := M) (Finset.subset_univ _)

/-- A store into a buffer owned whole. -/
theorem store_step {α : Type} {Q : α → sProp 𝕄} (c : Dev nD) {s : Shape} (M : Memref sig .tc .vmem s .f32) (r : Rect s) {w : Vec F r.shape .f32}
    {hx : (M.access r).Stores Finset.univ} {hm : (Finset.univ : Finset r.shape.Idx) = Finset.univ ∨ ∀ a, r.stride a = 1}
    {cont : PUnit → Prog (TpuEff nD τ sig (Elt F) Λ₀ .tc) α}
    (f f' : Buf (Elt F) (M.view.loc (c : Thread nD τ))) (hv : (M.access r).write (Elt F) f w Finset.univ = f') :
    (M.view.loc (c : Thread nD τ) ↦{fullShare} f : sProp 𝕄)
      ⊢ iprop(((M.view.loc (c : Thread nD τ) ↦{fullShare} f') -∗ wp frame (wpE (defs₀ (F := F)) 𝒱₀ (c : Thread nD τ) none) Set.univ (cont ⟨⟩) Q)
          -∗ wp frame (wpE (defs₀ (F := F)) 𝒱₀ (c : Thread nD τ) none) Set.univ (.op (.store M r w Finset.univ hx hm) cont) Q) := by
  subst hv
  exact wp_store 𝒱₀ (c : Thread nD τ) none Set.univ (m := M) (r := r) (Mk := Finset.univ) (S := Finset.univ) (Finset.subset_univ _)

/-- A load of a slot of a landing buffer. -/
theorem load_ag {α : Type} {Q : α → sProp 𝕄} (c : Dev nD) (i : Fin 3) (X : Vec F S64x512 .f32) {hl : (agM : Memref sig .tc .vmem S3x64x512 .f32).view.LoadsAt (slot3 i).toLoadRect}
    {cont : Vec F S1x64x512 .f32 → Prog (TpuEff nD τ sig (Elt F) Λ₀ .tc) α} :
    held c (ag i) X
      ⊢ iprop((∀ v, ⌜shapeCast S64x512 v shapeCasts_S1x64x512_S64x512 = X⌝ -∗ held c (ag i) X
            -∗ wp frame (wpE (defs₀ (F := F)) 𝒱₀ (c : Thread nD τ) none) Set.univ (cont v) Q)
          -∗ wp frame (wpE (defs₀ (F := F)) 𝒱₀ (c : Thread nD τ) none) Set.univ (.op (.load agM (slot3 i).toLoadRect hl) cont) Q) := by
  unfold held owns
  iintro ⟨%f, %hf, H⟩ Hk
  iapply (wp_load 𝒱₀ (c : Thread nD τ) none Set.univ (m := agM) (r := (slot3 i).toLoadRect) (S := (ag i).view.set)
    ((View.set_slice _ _).symm.trans ((View.set_slice_whole cc0_scratch2 (slot3 i)).trans (ag_set i).symm)).subset) $$ H
  iintro H
  iapply Hk $$ %_ %((read_ag i f).trans hf)
  iexists f
  isplitr; · ipureintro; exact hf
  iexact H
theorem load_ar {α : Type} {Q : α → sProp 𝕄} (c : Dev nD) (i : Fin 8) (X : Vec F S128x512 .f32) {hl : (arM : Memref sig .tc .vmem S8x128x512 .f32).view.LoadsAt (slot8 i).toLoadRect}
    {cont : Vec F S1x128x512 .f32 → Prog (TpuEff nD τ sig (Elt F) Λ₀ .tc) α} :
    held c (ar i) X
      ⊢ iprop((∀ v, ⌜shapeCast S128x512 v shapeCasts_S1x128x512_S128x512 = X⌝ -∗ held c (ar i) X
            -∗ wp frame (wpE (defs₀ (F := F)) 𝒱₀ (c : Thread nD τ) none) Set.univ (cont v) Q)
          -∗ wp frame (wpE (defs₀ (F := F)) 𝒱₀ (c : Thread nD τ) none) Set.univ (.op (.load arM (slot8 i).toLoadRect hl) cont) Q) := by
  unfold held owns
  iintro ⟨%f, %hf, H⟩ Hk
  iapply (wp_load 𝒱₀ (c : Thread nD τ) none Set.univ (m := arM) (r := (slot8 i).toLoadRect) (S := (ar i).view.set)
    ((View.set_slice _ _).symm.trans ((View.set_slice_whole cc0_scratch3 (slot8 i)).trans (ar_set i).symm)).subset) $$ H
  iintro H
  iapply Hk $$ %_ %((read_ar i f).trans hf)
  iexists f
  isplitr; · ipureintro; exact hf
  iexact H
theorem load_rs {α : Type} {Q : α → sProp 𝕄} (c : Dev nD) (i : Fin 3) (X : Vec F S64x512 .f32) {hl : (rsM : Memref sig .tc .vmem S3x64x512 .f32).view.LoadsAt (slot3 i).toLoadRect}
    {cont : Vec F S1x64x512 .f32 → Prog (TpuEff nD τ sig (Elt F) Λ₀ .tc) α} :
    held c (rs i) X
      ⊢ iprop((∀ v, ⌜shapeCast S64x512 v shapeCasts_S1x64x512_S64x512 = X⌝ -∗ held c (rs i) X
            -∗ wp frame (wpE (defs₀ (F := F)) 𝒱₀ (c : Thread nD τ) none) Set.univ (cont v) Q)
          -∗ wp frame (wpE (defs₀ (F := F)) 𝒱₀ (c : Thread nD τ) none) Set.univ (.op (.load rsM (slot3 i).toLoadRect hl) cont) Q) := by
  unfold held owns
  iintro ⟨%f, %hf, H⟩ Hk
  iapply (wp_load 𝒱₀ (c : Thread nD τ) none Set.univ (m := rsM) (r := (slot3 i).toLoadRect) (S := (rs i).view.set)
    ((View.set_slice _ _).symm.trans ((View.set_slice_whole cc0_scratch4 (slot3 i)).trans (rs_set i).symm)).subset) $$ H
  iintro H
  iapply Hk $$ %_ %((read_rs i f).trans hf)
  iexists f
  isplitr; · ipureintro; exact hf
  iexact H

end Cert.KernelIdeal.Hand

end
-- ==== Proof.Ideal.Landings.lean ====
/-
# What each copy hands over

For each copy: the contents of its source are those its receive cell's payload names, seen from the peer.
-/
module

public import proofs.«01_k».proof.Proof.Ideal.Steps

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The two large buffers, owned whole. -/
abbrev fAt (c : Dev nD) (v : Vec F S256x512 .f32) : sProp 𝕄 := fM.view.loc (c : Thread nD τ) ↦{fullShare} v
abbrev pAt (c : Dev nD) (v : Vec F S256x512 .f32) : sProp 𝕄 := pM.view.loc (c : Thread nD τ) ↦{fullShare} v

/-- They split into halves, and the second into row blocks, and join again. -/
theorem f_split (c : Dev nD) (v : Vec F S256x512 .f32) : fAt c v ⊢ iprop(piece c fLo fullShare v ∗ piece c fHi fullShare v) := (f_halves c v).1
theorem f_join (c : Dev nD) (v : Vec F S256x512 .f32) : iprop(piece c fLo fullShare v ∗ piece c fHi fullShare v) ⊢ fAt c v := (f_halves c v).2
theorem p_split (c : Dev nD) (v : Vec F S256x512 .f32) : pAt c v ⊢ iprop(piece c pLo fullShare v ∗ piece c pHi fullShare v) := (p_halves c v).1
theorem p_join (c : Dev nD) (v : Vec F S256x512 .f32) : iprop(piece c pLo fullShare v ∗ piece c pHi fullShare v) ⊢ pAt c v := (p_halves c v).2
theorem p_rows_eq (c : Dev nD) (v : Vec F S256x512 .f32) : pAt c v
    = iprop(piece c (pRow c) fullShare v ∗ piece c (pRow (pY c)) fullShare v ∗ piece c (pRow (pX c)) fullShare v ∗ piece c (pRow (pD c)) fullShare v) := p_rows c v

/-- The staged block of `x` splits into two shares, which two copies read at the same time, and joins again. -/
abbrev xAt (c : Dev nD) (v : Vec F S64x512 .f32) : sProp 𝕄 := xM.view.loc (c : Thread nD τ) ↦{fullShare} v
theorem x_split (c : Dev nD) (v : Vec F S64x512 .f32) : xAt c v ⊢ iprop(piece c xM fullShare.left v ∗ piece c xM fullShare.right v) := by
  unfold piece; rw [show (xM : Memref sig .tc .vmem S64x512 .f32).view.set = Finset.univ from View.set_whole _]
  exact (pointsTo_share (PosShare.mem_left_op_right fullShare)).1
theorem x_join (c : Dev nD) (v : Vec F S64x512 .f32) : iprop(piece c xM fullShare.left v ∗ piece c xM fullShare.right v) ⊢ xAt c v := by
  unfold piece; rw [show (xM : Memref sig .tc .vmem S64x512 .f32).view.set = Finset.univ from View.set_whole _]
  exact (pointsTo_share (PosShare.mem_left_op_right fullShare)).2

/-- A buffer of a device, owned whole. -/
abbrev holds (c : Dev nD) (b : Ref sig .tc) (v : b.ty.Contents (Elt F)) : sProp 𝕄 := (Memref.whole b).view.loc (c : Thread nD τ) ↦{fullShare} v

theorem held_of_piece (c : Dev nD) {s : Shape} (M : Memref sig .tc .vmem s .f32) (f : Buf (Elt F) (M.view.loc (c : Thread nD τ))) (X : Vec F s .f32)
    (h : M.view.read (Elt F) f = X) : piece c M fullShare f ⊢ held c M X := by
  unfold piece held owns
  iintro H; iexists f
  isplitr; · ipureintro; exact h
  iexact H

theorem hz : (![0, 0] : Fin 2 → Nat) = fun _ => 0 := funext fun a => by fin_cases a <;> rfl

variable (I : Inputs F)

theorem lands_0 (c : Dev nD) : held (peer 0 c) (ag 0) (xM.view.read (Elt F) (I.x c)) ⊢ recvPay I (peer 0 c) 0 := by
  show held (pY c) (ag 0) (I.x c) ⊢ held (pY c) (ag 0) (I.x (pY (pY c)))
  rw [pY_pY]
theorem lands_1 (c : Dev nD) : iprop(held (peer 1 c) (ag 1) (xM.view.read (Elt F) (I.x c)) ∗ room (pY c) (rs 2)) ⊢ recvPay I (peer 1 c) 1 := by
  show iprop(held (pX c) (ag 1) (I.x c) ∗ room (pY c) (rs 2)) ⊢ iprop(held (pX c) (ag 1) (I.x (pX (pX c))) ∗ room (pD (pX c)) (rs 2))
  rw [pX_pX, pD_pX]
theorem lands_2 (c : Dev nD) (f : Buf (Elt F) ((ag 0).view.loc (c : Thread nD τ))) (hf : (ag 0).view.read (Elt F) f = I.x (pY c)) :
    held (peer 2 c) (ag 2) ((ag 0).view.read (Elt F) f) ⊢ recvPay I (peer 2 c) 2 := by
  rw [hf]
  show held (pX c) (ag 2) (I.x (pY c)) ⊢ held (pX c) (ag 2) (I.x (pD (pX c)))
  rw [pD_pX]
theorem lands_3 (c : Dev nD) : held (peer 3 c) (ar 0) (pLo.view.read (Elt F) (P0 I c)) ⊢ recvPay I (peer 3 c) 3 := by
  show held (pY c) (ar 0) (lo (P0 I c)) ⊢ held (pY c) (ar 0) (lo (P0 I (pY (pY c))))
  rw [pY_pY]
theorem lands_4 (c : Dev nD) : held (peer 4 c) (ar 1) (pHi.view.read (Elt F) (P0 I c)) ⊢ recvPay I (peer 4 c) 4 := by
  show held (pX c) (ar 1) (hi (P0 I c)) ⊢ held (pX c) (ar 1) (hi (P0 I (pX (pX c))))
  rw [pX_pX]
theorem lands_5 (c : Dev nD) : held (peer 5 c) (ar 2) (fLo.view.read (Elt F) (A0 I c)) ⊢ recvPay I (peer 5 c) 5 := by
  show held (pX c) (ar 2) (lo (A0 I c)) ⊢ held (pX c) (ar 2) (lo (A0 I (pX (pX c))))
  rw [pX_pX]
theorem lands_6 (c : Dev nD) : held (peer 6 c) (ar 3) (fHi.view.read (Elt F) (A0 I c)) ⊢ recvPay I (peer 6 c) 6 := by
  show held (pY c) (ar 3) (hi (A0 I c)) ⊢ held (pY c) (ar 3) (hi (A0 I (pY (pY c))))
  rw [pY_pY]
theorem lands_7 (c : Dev nD) : held (peer 7 c) (ar 4) (pLo.view.read (Elt F) (P1 I c)) ⊢ recvPay I (peer 7 c) 7 := by
  show held (pY c) (ar 4) (lo (P1 I c)) ⊢ held (pY c) (ar 4) (lo (P1 I (pY (pY c))))
  rw [pY_pY]
theorem lands_8 (c : Dev nD) : held (peer 8 c) (ar 5) (pHi.view.read (Elt F) (P1 I c)) ⊢ recvPay I (peer 8 c) 8 := by
  show held (pX c) (ar 5) (hi (P1 I c)) ⊢ held (pX c) (ar 5) (hi (P1 I (pX (pX c))))
  rw [pX_pX]
theorem lands_9 (c : Dev nD) : held (peer 9 c) (ar 6) (fLo.view.read (Elt F) (A1 I c)) ⊢ recvPay I (peer 9 c) 9 := by
  show held (pX c) (ar 6) (lo (A1 I c)) ⊢ held (pX c) (ar 6) (lo (A1 I (pX (pX c))))
  rw [pX_pX]
theorem lands_10 (c : Dev nD) : held (peer 10 c) (ar 7) (fHi.view.read (Elt F) (A1 I c)) ⊢ recvPay I (peer 10 c) 10 := by
  show held (pY c) (ar 7) (hi (A1 I c)) ⊢ held (pY c) (ar 7) (hi (A1 I (pY (pY c))))
  rw [pY_pY]
theorem lands_11 (c : Dev nD) : held (peer 11 c) (rs 0) ((pRow (pY c)).view.read (Elt F) (P2 I c)) ⊢ recvPay I (peer 11 c) 11 := by
  show held (pY c) (rs 0) (rows (pY c) (P2 I c)) ⊢ held (pY c) (rs 0) (rows (pY c) (P2 I (pY (pY c))))
  rw [pY_pY]
theorem lands_12 (c : Dev nD) : held (peer 12 c) (rs 1) ((pRow (pX c)).view.read (Elt F) (P2 I c)) ⊢ recvPay I (peer 12 c) 12 := by
  show held (pX c) (rs 1) (rows (pX c) (P2 I c)) ⊢ held (pX c) (rs 1) (rows (pX c) (P2 I (pX (pX c))))
  rw [pX_pX]
theorem lands_13 (c : Dev nD) : held (peer 13 c) (rs 2) ((pRow (pD c)).view.read (Elt F) (P2 I c)) ⊢ recvPay I (peer 13 c) 13 := by
  show held (pD c) (rs 2) (rows (pD c) (P2 I c)) ⊢ held (pD c) (rs 2) (rows (pD c) (P2 I (pD (pD c))))
  rw [pD_pD]

end Cert.KernelIdeal.Hand

end
-- ==== Proof.Ideal.Rows.lean ====
/-
# Row blocks at offsets computed from the device's number

A load, a store and a copy whose rows begin at a computed offset are those of the row block of the
device that offset belongs to.
-/
module

public import proofs.«01_k».proof.Proof.Ideal.Landings

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F)

/-- The 64 rows of the product buffer that begin at `off`. -/
abbrev pOff (off : Fin S256x512.rank → ℕ) (h : ∀ a, off a + S64x512.size a ≤ S256x512.size a) : Memref sig .tc .vmem S64x512 .f32 :=
  pM.slice (Rect.unit (s := S256x512) off S64x512.size h) (fun _ => rfl)

/-- A slot that holds `X` has contents that read `X`. -/
theorem held_open (c : Dev nD) {s : Shape} (M : Memref sig .tc .vmem s .f32) (X : Vec F s .f32) :
    held c M X ⊢ (iprop(∃ g, ⌜M.view.read (Elt F) g = X⌝ ∗ piece c M fullShare g) : sProp 𝕄) := by
  unfold held owns piece; exact Entails.refl _

/-- A load of the 64 rows that begin at `off` reads device `d`'s row block, if `off` is its offset. -/
theorem load_row {α : Type} {Q : α → sProp 𝕄} (c d : Dev nD) (M : Memref sig .tc .vmem S256x512 .f32)
    {off : Fin S256x512.rank → ℕ} {h : ∀ a, off a + S64x512.size a ≤ S256x512.size a} (ho : off = rowOff d)
    {hl : M.view.LoadsAt (Rect.unit (s := S256x512) off S64x512.size h).toLoadRect} {cont : Vec F S64x512 .f32 → Prog (TpuEff nD τ sig (Elt F) Λ₀ .tc) α}
    {q : PosShare TreeShare} (f : Buf (Elt F) (M.view.loc (c : Thread nD τ))) (v : Vec F S64x512 .f32) (hv : M.view.readAt (Elt F) (rowR d).toLoadRect f = v) :
    (M.view.loc (c : Thread nD τ) ↦{q} f : sProp 𝕄)
      ⊢ iprop(((M.view.loc (c : Thread nD τ) ↦{q} f) -∗ wp frame (wpE (defs₀ (F := F)) 𝒱₀ (c : Thread nD τ) none) Set.univ (cont v) Q)
          -∗ wp frame (wpE (defs₀ (F := F)) 𝒱₀ (c : Thread nD τ) none) Set.univ (.op (.load M (Rect.unit (s := S256x512) off S64x512.size h).toLoadRect hl) cont) Q) := by
  subst ho
  exact load_step c M (rowR d) f v hv

/-- A store of the 64 rows that begin at `off` writes device `d`'s row block, if `off` is its offset. -/
theorem store_row {α : Type} {Q : α → sProp 𝕄} (c d : Dev nD) (M : Memref sig .tc .vmem S256x512 .f32)
    {off : Fin S256x512.rank → ℕ} {h : ∀ a, off a + S64x512.size a ≤ S256x512.size a} (ho : off = rowOff d) {w : Vec F S64x512 .f32}
    {hx : (M.access (Rect.unit (s := S256x512) off S64x512.size h)).Stores Finset.univ}
    {hm : (Finset.univ : Finset S64x512.Idx) = Finset.univ ∨ ∀ a, (Rect.unit (s := S256x512) off S64x512.size h).stride a = 1}
    {cont : PUnit → Prog (TpuEff nD τ sig (Elt F) Λ₀ .tc) α}
    (f f' : Buf (Elt F) (M.view.loc (c : Thread nD τ))) (hv : (M.access (rowR d)).write (Elt F) f w Finset.univ = f') :
    (M.view.loc (c : Thread nD τ) ↦{fullShare} f : sProp 𝕄)
      ⊢ iprop(((M.view.loc (c : Thread nD τ) ↦{fullShare} f') -∗ wp frame (wpE (defs₀ (F := F)) 𝒱₀ (c : Thread nD τ) none) Set.univ (cont ⟨⟩) Q)
          -∗ wp frame (wpE (defs₀ (F := F)) 𝒱₀ (c : Thread nD τ) none) Set.univ
              (.op (.store M (Rect.unit (s := S256x512) off S64x512.size h) w Finset.univ hx hm) cont) Q) := by
  subst ho
  exact store_step c M (rowR d) f f' hv

/-- The row block of device `d` put into the gathered array. -/
theorem put_row {α : Type} {Q : α → sProp 𝕄} (c d : Dev nD)
    {off : Fin S256x512.rank → ℕ} {h : ∀ a, off a + S64x512.size a ≤ S256x512.size a} (ho : off = rowOff d) {w : Vec F S64x512 .f32}
    {hx : ((fM : Memref sig .tc .vmem S256x512 .f32).access (Rect.unit (s := S256x512) off S64x512.size h)).Stores Finset.univ}
    {hm : (Finset.univ : Finset S64x512.Idx) = Finset.univ ∨ ∀ a, (Rect.unit (s := S256x512) off S64x512.size h).stride a = 1}
    {cont : PUnit → Prog (TpuEff nD τ sig (Elt F) Λ₀ .tc) α} (f : Vec F S256x512 .f32) (W : Vec F S64x512 .f32) (hw : w = W) :
    fAt c f
      ⊢ iprop((fAt c (putRow d f W) -∗ wp frame (wpE (defs₀ (F := F)) 𝒱₀ (c : Thread nD τ) none) Set.univ (cont ⟨⟩) Q)
          -∗ wp frame (wpE (defs₀ (F := F)) 𝒱₀ (c : Thread nD τ) none) Set.univ
              (.op (.store fM (Rect.unit (s := S256x512) off S64x512.size h) w Finset.univ hx hm) cont) Q) := by
  subst hw
  exact store_row c d fM ho f (putRow d f w) rfl

/-- Copy `k` started from the 64 rows of the product that begin at `off`. -/
theorem send_row (K : Dev nD × Cell → ℕ) {α : Type} {Q : α → sProp 𝕄} {cont : PUnit → Prog (TpuEff nD τ sig (Elt F) Λ₀ .tc) α}
    (c d : Dev nD) {off : Fin S256x512.rank → ℕ} (h : ∀ a, off a + S64x512.size a ≤ S256x512.size a) (ho : off = rowOff d)
    (k : Fin 14) {m m' : ℕ} (hm : k.val = m) (hm' : k.val + 1 = m') {e n : Dev nD} (he : peer k c = e) (hn : n = peer k c)
    {sS sR : DmaSem sig} (hS : sS = sendS k) (hR : sR = recvS k) {dst : Memref sig .tc .vmem S64x512 .f32}
    {hsc : (dst : Memref sig (Dev.tc n : Thread nD τ).2.kind .vmem S64x512 .f32).view.ref.isScScratch = false}
    {hsrc : (pOff off h).view.WordExact} {hdst : dst.view.WordExact}
    {hsem : DmaTarget.Typed .vmem (.dma sR) (.remote (Dev.tc n : Thread nD τ) (dst : Memref sig .tc .vmem S64x512 .f32) (.dma sS) hsc)}
    (hN : dst.view.dmaCredit = amt k) (v : Vec F S256x512 .f32)
    (hpay₁ : piece c (pRow d) fullShare v ⊢ sendPay I c k) (hpay₂ : held (peer k c) dst ((pRow d).view.read (Elt F) v) ⊢ recvPay I (peer k c) k) :
    laws I K ⊢ iprop(fresh c k -∗ piece c (pRow d) fullShare v -∗ room e dst -∗ owing c m
          -∗ (flight c k -∗ owing c m' -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (pOff off h) (.remote (Dev.tc n : Thread nD τ) dst (.dma sS) hsc) (.dma sR) hsrc hdst hsem) cont) Q) := by
  subst ho
  exact send_step I K c k hm hm' he hn hS hR hN hpay₁ hpay₂

end Cert.KernelIdeal.Hand

end
-- ==== Proof.Ideal.PartsA.lean ====
/-
# The body's parts 1 to 5: the barrier, the gathering of `x`, and the first product
-/
module

public import proofs.«01_k».proof.Proof.Ideal.Rows

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F) (K : Dev nD × Cell → ℕ)

/-- The slots device `c` may fill once the barrier is passed and copy 0 has started: those of `pY c`, those of `pX c`. -/
def leftY (c : Dev nD) : sProp 𝕄 := iprop(room (pY c) (ar 0) ∗ room (pY c) (ar 3) ∗ room (pY c) (ar 4) ∗ room (pY c) (ar 7) ∗ room (pY c) (rs 0) ∗ room (pY c) (rs 2))
def leftX (c : Dev nD) : sProp 𝕄 := iprop(room (pX c) (ag 1) ∗ room (pX c) (ag 2) ∗ room (pX c) (ar 1) ∗ room (pX c) (ar 2) ∗ room (pX c) (ar 5) ∗ room (pX c) (ar 6) ∗ room (pX c) (rs 1))

/-- Part 1: the barrier, and copy 0. -/
theorem part1_spec (c : Dev nD) (Q : (Σ' (d0 : Dev nD) (v2 : BitVec 32) (v3 : BitVec 32) (v4 : BitVec 32), BitVec 32) → sProp 𝕄) :
    laws I K ⊢ iprop(dutyTok ER (barCell (pY c)) 0 false
      -∗ dutyTok ER (barCell (pX c)) 0 true
      -∗ atPos ER (barCell c) 0 ∅ 0
      -∗ cred (tallyAt (barCell c) () 2)
      -∗ giveY c
      -∗ giveX c
      -∗ (∃ W, owes (c : Thread nD τ) (O₀ c) W)
      -∗ fresh c 0
      -∗ piece c xM fullShare.left (I.x c)
      -∗ (∀ v2 v3 v4 v6, owing c 1 -∗ flight c 0 -∗ semVal (barCell c) 0 -∗ leftY c -∗ leftX c -∗ Q ⟨c, v2, v3, v4, v6⟩)
      -∗ wp frame (wpE (defs₀ (F := F)) 𝒱₀ (c : Thread nD τ) none) Set.univ
        (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q) := by
  rw [k0_part1_eq_skeleton]; unfold k0_part1_skel
  simp only [semSignalWord, semWaitWord, Prog.lift, Prog.bind_op, Prog.bind_ret, Prog.pure_eq_ret, wp_deviceId]
  simp only [dev1_eq c, dev2_eq c]
  iintro #Hl HtY HtX HaB HcB HgY HgX ⟨%W, HO⟩ Hf0 Hx Hk
  ihave #HiB := (laws_inv I K (c, .inl ())) $$ Hl
  ihave #HiY := (laws_inv I K (pY c, .inl ())) $$ Hl
  ihave #HiX := (laws_inv I K (pX c, .inl ())) $$ Hl
  ihave #HrY := (laws_reached I K (pY c, .inl ())) $$ Hl
  ihave #HrX := (laws_reached I K (pX c, .inl ())) $$ Hl
  ihave #Hlev := (laws_lev I K) $$ Hl
  iapply (Rounds.wp_signal 𝒱₀ ER (Rd I) (c : Thread nD τ) none (dst := (pY c : Thread nD τ)) (κ := K (pY c, .inl ()))
      (d := false) (by rw [duties_bar]; exact Finset.mem_univ _) ((amount_bar I (pY c) false).trans (by decide)) () (O₁ c) rfl) $$ [HO HtY HgY]
  · isplitr; · iexact HiY
    isplitl [HO]; · iexact HO
    isplitl [HtY]; · iexact HtY
    isplitl [HgY]; · rw [payload_bar_false, pY_pY]; iexact HgY
    iexact HrY
  iintro HO
  unfold O₁
  iapply (Rounds.wp_signal 𝒱₀ ER (Rd I) (c : Thread nD τ) none (dst := (pX c : Thread nD τ)) (κ := K (pX c, .inl ()))
      (d := true) (by rw [duties_bar]; exact Finset.mem_univ _) ((amount_bar I (pX c) true).trans (by decide)) () (owed c 0) rfl) $$ [HO HtX HgX]
  · isplitr; · iexact HiX
    isplitl [HO]; · iexact HO
    isplitl [HtX]; · iexact HtX
    isplitl [HgX]; · rw [payload_bar_true, pX_pX]; iexact HgX
    iexact HrX
  iintro HO
  iapply (Rounds.wp_wait_rest_token 𝒱₀ ER (Rd I) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [HcB HO HaB]
  · isplitr; · iexact HiB
    isplitl [HcB]; · iexact HcB
    isplitl [HO]; · iexact HO
    isplitr; · iapply (mayWait_owed c _ 0 1 (lv_bar c ()).le (by omega)); iexact Hlev
    iexact HaB
  iintro ⟨HO, HaB, -, Hpay⟩
  ihave Hp := (Entails.of_eq (rest_bar I c)) $$ Hpay
  ihave Hp := (show iprop(giveY (pY c) ∗ giveX (pX c)) ⊢ (iprop((room (pY c) (ag 0) ∗ leftY c) ∗ leftX c) : sProp 𝕄) from by
    unfold giveY giveX leftY leftX; exact Entails.refl _) $$ Hp
  icases Hp with ⟨⟨Hr0, HRY⟩, HRX⟩
  imod (Rounds.cell_close ER (Rd I) (Set.mem_univ (K (c, .inl ()))) (fun h => h) (R := 0 + 1) (duties_later I (barCell c))) $$ [HaB] with HzB
  · isplitr; · iexact HiB
    iexact HaB
  ihave HO := (show owes (c : Thread nD τ) (owed c 0) (insert (SemLoc.reg barS, ()) W) ⊢ (owing c 0 : sProp 𝕄) from by
    unfold owing; iintro H; iexists _; iexact H) $$ HO
  iapply (send_step I K c 0 (m := 0) (m' := 1) rfl rfl (e := pY c) rfl (dev3_eq c) rfl rfl (src := xM) (dst := ag 0) rfl (q := fullShare.left) (fs := I.x c) (Entails.refl _) (lands_0 I c))
    $$ Hl Hf0 Hx Hr0 HO
  iintro Hf0 HO
  rw [wp_ret]; imodintro
  iapply Hk $$ %_ %_ %_ %_ HO Hf0 HzB HRY HRX

/-- Part 2: copy 1, and the end of copies 0 and 1. -/
theorem part2_spec (c : Dev nD) (v2 v3 v4 : BitVec 32) (Q : FVec F S64x512 .f32 → sProp 𝕄) :
    laws I K ⊢ iprop(owing c 1
      -∗ flight c 0
      -∗ fresh c 1
      -∗ piece c xM fullShare.right (I.x c)
      -∗ room (pX c) (ag 1)
      -∗ room (pY c) (rs 2)
      -∗ (owing c 2 -∗ done c 0 -∗ done c 1 -∗ xAt c (I.x c) -∗ held c (ag 0) (I.x (pY c)) -∗ held c (ag 1) (I.x (pX c)) -∗ room (pD c) (rs 2) -∗ Q (I.x c))
      -∗ wp frame (wpE (defs₀ (F := F)) 𝒱₀ (c : Thread nD τ) none) Set.univ
        (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 v3 v4) Q) := by
  rw [k0_part2_eq_skeleton]; unfold k0_part2_skel
  simp only [Prog.lift, Prog.bind_op, Prog.bind_ret, Prog.pure_eq_ret]
  iintro #Hl HO Hf0 Hf1 Hx Hr1 Hrs Hk
  iapply (send_step_with I K c 1 (m := 1) (m' := 2) rfl rfl (e := pX c) rfl (dev4_eq c) rfl rfl (src := xM) (dst := ag 1) rfl (q := fullShare.right) (fs := I.x c) (Fr := room (pY c) (rs 2)) (Entails.refl _) (lands_1 I c))
    $$ Hl Hf1 Hx Hr1 Hrs HO
  iintro Hf1 HO
  iapply (wait_send I K c 0 2 rfl (src := ag 0) (dst := xM) rfl (P := piece c xM fullShare.left (I.x c)) rfl) $$ Hl Hf0 HO
  iintro Hf0 Hx0 HO
  iapply (wait_recv I K c 0 2 (by decide) rfl (src := xM) (dst := ag 0) rfl (P := held c (ag 0) (I.x (pY c))) rfl) $$ Hl Hf0 HO
  iintro Hf0 Ha0 HO
  iapply (wait_send I K c 1 2 rfl (src := ag 1) (dst := xM) rfl (P := piece c xM fullShare.right (I.x c)) rfl) $$ Hl Hf1 HO
  iintro Hf1 Hx1 HO
  iapply (wait_recv I K c 1 2 (by decide) rfl (src := xM) (dst := ag 1) rfl (P := iprop(held c (ag 1) (I.x (pX c)) ∗ room (pD c) (rs 2))) rfl) $$ Hl Hf1 HO
  iintro Hf1 ⟨Ha1, Hrs⟩ HO
  ihave Hx := (x_join c (I.x c)) $$ [Hx0 Hx1]
  · isplitl [Hx0] <;> iassumption
  iapply (load_step c (Memref.whole cc0_stg0_0) _ (I.x c) (I.x c) (Memref.readAt_unit_zero (Elt F) cc0_stg0_0 hz _ _)) $$ Hx; iintro Hx
  rw [wp_ret]; imodintro
  rw [pay2_eq]
  iapply Hk $$ HO Hf0 Hf1 Hx Ha0 Ha1 Hrs

/-- Part 3: three row blocks of the gathered `x` are stored, and copy 2 starts. -/
theorem part3_spec (c : Dev nD) (v3 v4 : BitVec 32) (f : Vec F S256x512 .f32) (Q : PUnit → sProp 𝕄) :
    laws I K ⊢ iprop(owing c 2
      -∗ fAt c f
      -∗ held c (ag 0) (I.x (pY c))
      -∗ held c (ag 1) (I.x (pX c))
      -∗ fresh c 2
      -∗ room (pX c) (ag 2)
      -∗ (owing c 3 -∗ fAt c (putRow (pX c) (putRow (pY c) (putRow c f (I.x c)) (I.x (pY c))) (I.x (pX c))) -∗ held c (ag 1) (I.x (pX c)) -∗ flight c 2 -∗ Q ⟨⟩)
      -∗ wp frame (wpE (defs₀ (F := F)) 𝒱₀ (c : Thread nD τ) none) Set.univ
        (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v3 v4 (I.x c)) Q) := by
  rw [k0_part3_eq_skeleton]; unfold k0_part3_skel
  simp only [Prog.lift, Prog.bind_op, Prog.bind_ret, Prog.pure_eq_ret]
  iintro #Hl HO HF Ha0 Ha1 Hf2 Hr2 Hk
  iapply (load_row c c fM (off1_eq c) f _ rfl) $$ HF; iintro HF
  iapply (put_row c c (off1_eq c) f (I.x c) (pay3_eq (I.x c))) $$ HF; iintro HF
  iapply (load_ag c 0 (I.x (pY c))) $$ Ha0; iintro %v %hv Ha0
  iapply (load_row c (pY c) fM (off2_eq c) (putRow c f (I.x c)) _ rfl) $$ HF; iintro HF
  iapply (put_row c (pY c) (off2_eq c) (putRow c f (I.x c)) (I.x (pY c)) ((pay4_eq v).trans hv)) $$ HF; iintro HF
  iapply (load_ag c 1 (I.x (pX c))) $$ Ha1; iintro %w %hw Ha1
  iapply (load_row c (pX c) fM (off3_eq c) (putRow (pY c) (putRow c f (I.x c)) (I.x (pY c))) _ rfl) $$ HF; iintro HF
  iapply (put_row c (pX c) (off3_eq c) (putRow (pY c) (putRow c f (I.x c)) (I.x (pY c))) (I.x (pX c)) ((pay5_eq w).trans hw)) $$ HF; iintro HF
  ihave Ha0 := (held_open c (ag 0) (I.x (pY c))) $$ Ha0
  icases Ha0 with ⟨%g, %hg, Ha0⟩
  iapply (send_step I K c 2 (m := 2) (m' := 3) rfl rfl (e := pX c) rfl (dev5_eq c) rfl rfl (src := ag 0) (dst := ag 2) rfl (q := fullShare) (fs := g) (held_of_piece c (ag 0) g (I.x (pY c)) hg) (lands_2 I c g hg))
    $$ Hl Hf2 Ha0 Hr2 HO
  iintro Hf2 HO
  rw [wp_ret]; imodintro
  iapply Hk $$ HO HF Ha1 Hf2

/-- Part 4: the last row block arrives, and the first product is formed. -/
theorem part4_spec (c : Dev nD) (v4 v6 : BitVec 32) (f p : Vec F S256x512 .f32) (Q : (Σ' (v108 : FVec F S256x512 .f32), Vec F S256x512 .f32) → sProp 𝕄) :
    laws I K ⊢ iprop(owing c 3
      -∗ fAt c (putRow (pX c) (putRow (pY c) (putRow c f (I.x c)) (I.x (pY c))) (I.x (pX c)))
      -∗ pAt c p
      -∗ holds c cc0_stg1_0 (I.u0 c)
      -∗ holds c cc0_stg2_0 (I.v0 c)
      -∗ flight c 2
      -∗ (owing c 3 -∗ fAt c (X0 I) -∗ pAt c p -∗ holds c cc0_stg1_0 (I.u0 c) -∗ holds c cc0_stg2_0 (I.v0 c) -∗ done c 2 -∗ held c (ag 0) (I.x (pY c)) -∗ held c (ag 2) (I.x (pD c)) -∗ Q ⟨P0 I c, p⟩)
      -∗ wp frame (wpE (defs₀ (F := F)) 𝒱₀ (c : Thread nD τ) none) Set.univ
        (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v4 v6) Q) := by
  rw [k0_part4_eq_skeleton]; unfold k0_part4_skel
  simp only [Prog.lift, Prog.bind_op, Prog.bind_ret, Prog.pure_eq_ret]
  iintro #Hl HO HF HP Hu Hv Hf2 Hk
  iapply (wait_send I K c 2 3 rfl (src := ag 2) (dst := ag 0) rfl (P := held c (ag 0) (I.x (pY c))) rfl) $$ Hl Hf2 HO
  iintro Hf2 Ha0 HO
  iapply (wait_recv I K c 2 3 (by decide) rfl (src := ag 0) (dst := ag 2) rfl (P := held c (ag 2) (I.x (pD c))) rfl) $$ Hl Hf2 HO
  iintro Hf2 Ha2 HO
  iapply (load_ag c 2 (I.x (pD c))) $$ Ha2; iintro %v %hv Ha2
  iapply (load_row c (pD c) fM (off4_eq c) (putRow (pX c) (putRow (pY c) (putRow c f (I.x c)) (I.x (pY c))) (I.x (pX c))) _ rfl) $$ HF; iintro HF
  iapply (put_row c (pD c) (off4_eq c) (putRow (pX c) (putRow (pY c) (putRow c f (I.x c)) (I.x (pY c))) (I.x (pX c))) (I.x (pD c)) ((pay6_eq v).trans hv)) $$ HF; iintro HF
  rw [show putRow (pD c) _ (I.x (pD c)) = X0 I from putRows c f I.x]
  iapply (load_step c (Memref.whole cc0_scratch0) _ (X0 I) (X0 I) (Memref.readAt_unit_zero (Elt F) cc0_scratch0 hz _ _)) $$ HF; iintro HF
  iapply (load_step c (Memref.whole cc0_stg1_0) _ (I.u0 c) (I.u0 c) (Memref.readAt_unit_zero (Elt F) cc0_stg1_0 hz _ _)) $$ Hu; iintro Hu
  iapply (load_step c (Memref.whole cc0_stg2_0) _ (I.v0 c) (I.v0 c) (Memref.readAt_unit_zero (Elt F) cc0_stg2_0 hz _ _)) $$ Hv; iintro Hv
  iapply (load_step c (Memref.whole cc0_scratch1) _ p p (Memref.readAt_unit_zero (Elt F) cc0_scratch1 hz _ _)) $$ HP; iintro HP
  rw [wp_ret]; imodintro
  rw [show k0_pay7 (X0 I) (I.u0 c) (I.v0 c) = P0 I c from rfl]
  iapply Hk $$ HO HF HP Hu Hv Hf2 Ha0 Ha2

/-- Part 5: the product is stored and its halves are sent. -/
theorem part5_spec (c : Dev nD) (v3 v4 : BitVec 32) (p q : Vec F S256x512 .f32) (Q : BitVec 32 → sProp 𝕄) :
    laws I K ⊢ iprop(owing c 3
      -∗ pAt c p
      -∗ fresh c 3
      -∗ room (pY c) (ar 0)
      -∗ fresh c 4
      -∗ room (pX c) (ar 1)
      -∗ (∀ r, owing c 5 -∗ half c 3 -∗ flight c 4 -∗ piece c pLo fullShare (P0 I c) -∗ Q r)
      -∗ wp frame (wpE (defs₀ (F := F)) 𝒱₀ (c : Thread nD τ) none) Set.univ
        (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v3 v4 (P0 I c) q) Q) := by
  rw [k0_part5_eq_skeleton]; unfold k0_part5_skel
  simp only [Prog.lift, Prog.bind_op, Prog.bind_ret, Prog.pure_eq_ret]
  iintro #Hl HO HP Hf3 Hr3 Hf4 Hr4 Hk
  iapply (store_step c (Memref.whole cc0_scratch1) _ p (P0 I c) ((Memref.write_access_unit_zero_univ (Elt F) cc0_scratch1 hz _ _ _).trans (pay8_eq _))) $$ HP; iintro HP
  ihave H := (p_split c (P0 I c)) $$ HP
  icases H with ⟨HA, HB⟩
  iapply (send_step I K c 3 (m := 3) (m' := 4) rfl rfl (e := pY c) rfl (dev6_eq c) rfl rfl (src := pLo) (dst := ar 0) rfl (q := fullShare) (fs := P0 I c) (Entails.refl _) (lands_3 I c))
    $$ Hl Hf3 HA Hr3 HO
  iintro Hf3 HO
  iapply (send_step I K c 4 (m := 4) (m' := 5) rfl rfl (e := pX c) rfl (dev7_eq c) rfl rfl (src := pHi) (dst := ar 1) rfl (q := fullShare) (fs := P0 I c) (Entails.refl _) (lands_4 I c))
    $$ Hl Hf4 HB Hr4 HO
  iintro Hf4 HO
  iapply (wait_send I K c 3 5 rfl (src := ar 0) (dst := pLo) rfl (P := piece c pLo fullShare (P0 I c)) rfl) $$ Hl Hf3 HO
  iintro Hf3 HA HO
  rw [wp_ret]; imodintro
  iapply Hk $$ %_ HO Hf3 Hf4 HA

end Cert.KernelIdeal.Hand

end
-- ==== Proof.Ideal.PartsB.lean ====
/-
# The body's parts 6 to 9: the two exchanges of the first layer, and the second product
-/
module

public import proofs.«01_k».proof.Proof.Ideal.Landings

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F) (K : Dev nD × Cell → ℕ)

/-- Part 6: copies 3 and 4 end, and the lower half of the first sum is stored. -/
theorem part6_spec (c : Dev nD) (v4 r : BitVec 32) (Q : PUnit → sProp 𝕄) :
    laws I K ⊢ iprop(owing c 5
      -∗ half c 3
      -∗ flight c 4
      -∗ piece c pLo fullShare (P0 I c)
      -∗ fAt c (X0 I)
      -∗ (owing c 5 -∗ done c 3 -∗ done c 4 -∗ pAt c (P0 I c) -∗ held c (ar 0) (lo (P0 I (pY c))) -∗ held c (ar 1) (hi (P0 I (pX c))) -∗ fAt c (putLo (X0 I) (addf (lo (P0 I c)) (lo (P0 I (pY c))))) -∗ Q ⟨⟩)
      -∗ wp frame (wpE (defs₀ (F := F)) 𝒱₀ (c : Thread nD τ) none) Set.univ
        (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v4 r) Q) := by
  rw [k0_part6_eq_skeleton]; unfold k0_part6_skel
  simp only [Prog.lift, Prog.bind_op, Prog.bind_ret, Prog.pure_eq_ret]
  iintro #Hl HO Hf3 Hf4 HA HF Hk
  iapply (wait_recv I K c 3 5 (by decide) rfl (src := pLo) (dst := ar 0) rfl (P := held c (ar 0) (lo (P0 I (pY c)))) rfl) $$ Hl Hf3 HO
  iintro Hf3 Hs0 HO
  iapply (wait_send I K c 4 5 rfl (src := ar 1) (dst := pHi) rfl (P := piece c pHi fullShare (P0 I c)) rfl) $$ Hl Hf4 HO
  iintro Hf4 HB HO
  iapply (wait_recv I K c 4 5 (by decide) rfl (src := pHi) (dst := ar 1) rfl (P := held c (ar 1) (hi (P0 I (pX c)))) rfl) $$ Hl Hf4 HO
  iintro Hf4 Hs1 HO
  ihave HP := (p_join c (P0 I c)) $$ [HA HB]
  · isplitl [HA] <;> iassumption
  iapply (load_step c pM loR (P0 I c) (lo (P0 I c)) rfl) $$ HP; iintro HP
  iapply (load_ar c 0 (lo (P0 I (pY c)))) $$ Hs0; iintro %v %hv Hs0
  iapply (load_step c fM loR (X0 I) (lo (X0 I)) rfl) $$ HF; iintro HF
  iapply (store_step c fM loR (w := k0_pay9 (lo (P0 I c)) v) (X0 I) (putLo (X0 I) (addf (lo (P0 I c)) (lo (P0 I (pY c))))) (congrArg (putLo (X0 I)) ((pay9_eq _ _).trans (congrArg (addf _) hv)))) $$ HF; iintro HF
  rw [wp_ret]; imodintro
  iapply Hk $$ HO Hf3 Hf4 HP Hs0 Hs1 HF

/-- Part 7: the upper half of the first sum, whose halves are sent. -/
theorem part7_spec (c : Dev nD) (v3 v4 : BitVec 32) (Q : PUnit → sProp 𝕄) :
    laws I K ⊢ iprop(owing c 5
      -∗ pAt c (P0 I c)
      -∗ held c (ar 1) (hi (P0 I (pX c)))
      -∗ fAt c (putLo (X0 I) (addf (lo (P0 I c)) (lo (P0 I (pY c)))))
      -∗ fresh c 5
      -∗ room (pX c) (ar 2)
      -∗ fresh c 6
      -∗ room (pY c) (ar 3)
      -∗ (owing c 7 -∗ flight c 5 -∗ flight c 6 -∗ pAt c (P0 I c) -∗ held c (ar 1) (hi (P0 I (pX c))) -∗ Q ⟨⟩)
      -∗ wp frame (wpE (defs₀ (F := F)) 𝒱₀ (c : Thread nD τ) none) Set.univ
        (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v3 v4) Q) := by
  rw [k0_part7_eq_skeleton]; unfold k0_part7_skel
  simp only [Prog.lift, Prog.bind_op, Prog.bind_ret, Prog.pure_eq_ret]
  iintro #Hl HO HP Hs1 HF Hf5 Hr5 Hf6 Hr6 Hk
  iapply (load_step c pM hiR (P0 I c) (hi (P0 I c)) rfl) $$ HP; iintro HP
  iapply (load_ar c 1 (hi (P0 I (pX c)))) $$ Hs1; iintro %v %hv Hs1
  iapply (load_step c fM hiR (putLo (X0 I) (addf (lo (P0 I c)) (lo (P0 I (pY c))))) (hi (putLo (X0 I) (addf (lo (P0 I c)) (lo (P0 I (pY c)))))) rfl) $$ HF; iintro HF
  iapply (store_step c fM hiR (w := k0_pay10 (hi (P0 I c)) v) (putLo (X0 I) (addf (lo (P0 I c)) (lo (P0 I (pY c))))) (A0 I c) ((congrArg (putHi (putLo (X0 I) (addf (lo (P0 I c)) (lo (P0 I (pY c)))))) ((pay10_eq _ _).trans (congrArg (addf _) hv))).trans (putHi_putLo (X0 I) (addf (lo (P0 I c)) (lo (P0 I (pY c)))) (addf (hi (P0 I c)) (hi (P0 I (pX c))))))) $$ HF; iintro HF
  ihave H := (f_split c (A0 I c)) $$ HF
  icases H with ⟨HA, HB⟩
  iapply (send_step I K c 5 (m := 5) (m' := 6) rfl rfl (e := pX c) rfl (dev8_eq c) rfl rfl (src := fLo) (dst := ar 2) rfl (q := fullShare) (fs := A0 I c) (Entails.refl _) (lands_5 I c))
    $$ Hl Hf5 HA Hr5 HO
  iintro Hf5 HO
  iapply (send_step I K c 6 (m := 6) (m' := 7) rfl rfl (e := pY c) rfl (dev9_eq c) rfl rfl (src := fHi) (dst := ar 3) rfl (q := fullShare) (fs := A0 I c) (Entails.refl _) (lands_6 I c))
    $$ Hl Hf6 HB Hr6 HO
  iintro Hf6 HO
  rw [wp_ret]; imodintro
  iapply Hk $$ HO Hf5 Hf6 HP Hs1

/-- Part 8: copies 5 and 6 end. -/
theorem part8_spec (c : Dev nD) (v3 v4 : BitVec 32) (Q : (Σ' (v210 : Vec F S128x512 .f32), Vec F S1x128x512 .f32) → sProp 𝕄) :
    laws I K ⊢ iprop(owing c 7
      -∗ flight c 5
      -∗ flight c 6
      -∗ (∀ v, ⌜shapeCast S128x512 v shapeCasts_S1x128x512_S128x512 = lo (A0 I (pX c))⌝ -∗ owing c 7 -∗ done c 5 -∗ done c 6 -∗ fAt c (A0 I c) -∗ held c (ar 2) (lo (A0 I (pX c))) -∗ held c (ar 3) (hi (A0 I (pY c))) -∗ Q ⟨lo (A0 I c), v⟩)
      -∗ wp frame (wpE (defs₀ (F := F)) 𝒱₀ (c : Thread nD τ) none) Set.univ
        (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v3 v4) Q) := by
  rw [k0_part8_eq_skeleton]; unfold k0_part8_skel
  simp only [Prog.lift, Prog.bind_op, Prog.bind_ret, Prog.pure_eq_ret]
  iintro #Hl HO Hf5 Hf6 Hk
  iapply (wait_send I K c 5 7 rfl (src := ar 2) (dst := fLo) rfl (P := piece c fLo fullShare (A0 I c)) rfl) $$ Hl Hf5 HO
  iintro Hf5 HA HO
  iapply (wait_recv I K c 5 7 (by decide) rfl (src := fLo) (dst := ar 2) rfl (P := held c (ar 2) (lo (A0 I (pX c)))) rfl) $$ Hl Hf5 HO
  iintro Hf5 Hs2 HO
  iapply (wait_send I K c 6 7 rfl (src := ar 3) (dst := fHi) rfl (P := piece c fHi fullShare (A0 I c)) rfl) $$ Hl Hf6 HO
  iintro Hf6 HB HO
  iapply (wait_recv I K c 6 7 (by decide) rfl (src := fHi) (dst := ar 3) rfl (P := held c (ar 3) (hi (A0 I (pY c)))) rfl) $$ Hl Hf6 HO
  iintro Hf6 Hs3 HO
  ihave HF := (f_join c (A0 I c)) $$ [HA HB]
  · isplitl [HA] <;> iassumption
  iapply (load_step c fM loR (A0 I c) (lo (A0 I c)) rfl) $$ HF; iintro HF
  iapply (load_ar c 2 (lo (A0 I (pX c)))) $$ Hs2; iintro %v %hv Hs2
  rw [wp_ret]; imodintro
  iapply Hk $$ %v %hv HO Hf5 Hf6 HF Hs2 Hs3

/-- Part 9: the second sum, and the second product. -/
theorem part9_spec (c : Dev nD) (v3 : BitVec 32) (p : Vec F S256x512 .f32) (v : Vec F S1x128x512 .f32) (hv : shapeCast S128x512 v shapeCasts_S1x128x512_S128x512 = lo (A0 I (pX c)))
    (Q : PUnit → sProp 𝕄) :
    laws I K ⊢ iprop(fAt c (A0 I c)
      -∗ held c (ar 3) (hi (A0 I (pY c)))
      -∗ pAt c p
      -∗ holds c cc0_stg3_0 (I.u1 c)
      -∗ holds c cc0_stg4_0 (I.v1 c)
      -∗ (fAt c (X1 I c) -∗ held c (ar 3) (hi (A0 I (pY c))) -∗ pAt c (P1 I c) -∗ holds c cc0_stg3_0 (I.u1 c) -∗ holds c cc0_stg4_0 (I.v1 c) -∗ Q ⟨⟩)
      -∗ wp frame (wpE (defs₀ (F := F)) 𝒱₀ (c : Thread nD τ) none) Set.univ
        (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v3 (lo (A0 I c)) v) Q) := by
  rw [k0_part9_eq_skeleton]; unfold k0_part9_skel
  simp only [Prog.lift, Prog.bind_op, Prog.bind_ret, Prog.pure_eq_ret]
  iintro #Hl HF Hs3 HP Hu Hw Hk
  iapply (load_step c fM loR (A0 I c) (lo (A0 I c)) rfl) $$ HF; iintro HF
  iapply (store_step c fM loR (w := k0_pay11 (lo (A0 I c)) v) (A0 I c) (putLo (A0 I c) (addf (lo (A0 I c)) (lo (A0 I (pX c))))) (congrArg (putLo (A0 I c)) ((pay11_eq _ _).trans (congrArg (addf _) hv)))) $$ HF; iintro HF
  iapply (load_step c fM hiR (putLo (A0 I c) (addf (lo (A0 I c)) (lo (A0 I (pX c))))) (hi (A0 I c)) (hi_putLo _ _)) $$ HF; iintro HF
  iapply (load_ar c 3 (hi (A0 I (pY c)))) $$ Hs3; iintro %w %hw Hs3
  iapply (load_step c fM hiR (putLo (A0 I c) (addf (lo (A0 I c)) (lo (A0 I (pX c))))) (hi (A0 I c)) (hi_putLo _ _)) $$ HF; iintro HF
  iapply (store_step c fM hiR (w := k0_pay12 (hi (A0 I c)) w) (putLo (A0 I c) (addf (lo (A0 I c)) (lo (A0 I (pX c))))) (X1 I c) ((congrArg (putHi (putLo (A0 I c) (addf (lo (A0 I c)) (lo (A0 I (pX c)))))) ((pay12_eq _ _).trans (congrArg (addf _) hw))).trans (putHi_putLo (A0 I c) (addf (lo (A0 I c)) (lo (A0 I (pX c)))) (addf (hi (A0 I c)) (hi (A0 I (pY c))))))) $$ HF; iintro HF
  iapply (load_step c (Memref.whole cc0_scratch0) _ (X1 I c) (X1 I c) (Memref.readAt_unit_zero (Elt F) cc0_scratch0 hz _ _)) $$ HF; iintro HF
  iapply (load_step c (Memref.whole cc0_stg3_0) _ (I.u1 c) (I.u1 c) (Memref.readAt_unit_zero (Elt F) cc0_stg3_0 hz _ _)) $$ Hu; iintro Hu
  iapply (load_step c (Memref.whole cc0_stg4_0) _ (I.v1 c) (I.v1 c) (Memref.readAt_unit_zero (Elt F) cc0_stg4_0 hz _ _)) $$ Hw; iintro Hw
  iapply (load_step c (Memref.whole cc0_scratch1) _ p p (Memref.readAt_unit_zero (Elt F) cc0_scratch1 hz _ _)) $$ HP; iintro HP
  iapply (store_step c (Memref.whole cc0_scratch1) _ p (P1 I c) ((Memref.write_access_unit_zero_univ (Elt F) cc0_scratch1 hz _ _ _).trans (pay13_eq _ _ _))) $$ HP; iintro HP
  rw [wp_ret]; imodintro
  iapply Hk $$ HF Hs3 HP Hu Hw

end Cert.KernelIdeal.Hand

end
-- ==== Proof.Ideal.PartsC.lean ====
/-
# The body's parts 10 to 13: the exchanges of the second layer
-/
module

public import proofs.«01_k».proof.Proof.Ideal.Landings

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F) (K : Dev nD × Cell → ℕ)

/-- Part 10: the halves of the second product are sent. -/
theorem part10_spec (c : Dev nD) (v3 v4 : BitVec 32) (Q : PUnit → sProp 𝕄) :
    laws I K ⊢ iprop(owing c 7
      -∗ pAt c (P1 I c)
      -∗ fresh c 7
      -∗ room (pY c) (ar 4)
      -∗ fresh c 8
      -∗ room (pX c) (ar 5)
      -∗ (owing c 9 -∗ done c 7 -∗ piece c pLo fullShare (P1 I c) -∗ held c (ar 4) (lo (P1 I (pY c))) -∗ flight c 8 -∗ Q ⟨⟩)
      -∗ wp frame (wpE (defs₀ (F := F)) 𝒱₀ (c : Thread nD τ) none) Set.univ
        (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v3 v4) Q) := by
  rw [k0_part10_eq_skeleton]; unfold k0_part10_skel
  simp only [Prog.lift, Prog.bind_op, Prog.bind_ret, Prog.pure_eq_ret]
  iintro #Hl HO HP Hf7 Hr7 Hf8 Hr8 Hk
  ihave H := (p_split c (P1 I c)) $$ HP
  icases H with ⟨HA, HB⟩
  iapply (send_step I K c 7 (m := 7) (m' := 8) rfl rfl (e := pY c) rfl (dev10_eq c) rfl rfl (src := pLo) (dst := ar 4) rfl (q := fullShare) (fs := P1 I c) (Entails.refl _) (lands_7 I c))
    $$ Hl Hf7 HA Hr7 HO
  iintro Hf7 HO
  iapply (send_step I K c 8 (m := 8) (m' := 9) rfl rfl (e := pX c) rfl (dev11_eq c) rfl rfl (src := pHi) (dst := ar 5) rfl (q := fullShare) (fs := P1 I c) (Entails.refl _) (lands_8 I c))
    $$ Hl Hf8 HB Hr8 HO
  iintro Hf8 HO
  iapply (wait_send I K c 7 9 rfl (src := ar 4) (dst := pLo) rfl (P := piece c pLo fullShare (P1 I c)) rfl) $$ Hl Hf7 HO
  iintro Hf7 HA HO
  iapply (wait_recv I K c 7 9 (by decide) rfl (src := pLo) (dst := ar 4) rfl (P := held c (ar 4) (lo (P1 I (pY c)))) rfl) $$ Hl Hf7 HO
  iintro Hf7 Hs4 HO
  rw [wp_ret]; imodintro
  iapply Hk $$ HO Hf7 HA Hs4 Hf8

/-- Part 11: the first sum of the second layer. -/
theorem part11_spec (c : Dev nD) (v4 : BitVec 32) (Q : PUnit → sProp 𝕄) :
    laws I K ⊢ iprop(owing c 9
      -∗ piece c pLo fullShare (P1 I c)
      -∗ held c (ar 4) (lo (P1 I (pY c)))
      -∗ flight c 8
      -∗ fAt c (X1 I c)
      -∗ (owing c 9 -∗ done c 8 -∗ pAt c (P1 I c) -∗ held c (ar 4) (lo (P1 I (pY c))) -∗ held c (ar 5) (hi (P1 I (pX c))) -∗ fAt c (A1 I c) -∗ Q ⟨⟩)
      -∗ wp frame (wpE (defs₀ (F := F)) 𝒱₀ (c : Thread nD τ) none) Set.univ
        (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v4) Q) := by
  rw [k0_part11_eq_skeleton]; unfold k0_part11_skel
  simp only [Prog.lift, Prog.bind_op, Prog.bind_ret, Prog.pure_eq_ret]
  iintro #Hl HO HA Hs4 Hf8 HF Hk
  iapply (wait_send I K c 8 9 rfl (src := ar 5) (dst := pHi) rfl (P := piece c pHi fullShare (P1 I c)) rfl) $$ Hl Hf8 HO
  iintro Hf8 HB HO
  iapply (wait_recv I K c 8 9 (by decide) rfl (src := pHi) (dst := ar 5) rfl (P := held c (ar 5) (hi (P1 I (pX c)))) rfl) $$ Hl Hf8 HO
  iintro Hf8 Hs5 HO
  ihave HP := (p_join c (P1 I c)) $$ [HA HB]
  · isplitl [HA] <;> iassumption
  iapply (load_step c pM loR (P1 I c) (lo (P1 I c)) rfl) $$ HP; iintro HP
  iapply (load_ar c 4 (lo (P1 I (pY c)))) $$ Hs4; iintro %v %hv Hs4
  iapply (load_step c fM loR (X1 I c) (lo (X1 I c)) rfl) $$ HF; iintro HF
  iapply (store_step c fM loR (w := k0_pay14 (lo (P1 I c)) v) (X1 I c) (putLo (X1 I c) (addf (lo (P1 I c)) (lo (P1 I (pY c))))) (congrArg (putLo (X1 I c)) ((pay14_eq _ _).trans (congrArg (addf _) hv)))) $$ HF; iintro HF
  iapply (load_step c pM hiR (P1 I c) (hi (P1 I c)) rfl) $$ HP; iintro HP
  iapply (load_ar c 5 (hi (P1 I (pX c)))) $$ Hs5; iintro %w %hw Hs5
  iapply (load_step c fM hiR (putLo (X1 I c) (addf (lo (P1 I c)) (lo (P1 I (pY c))))) (hi (putLo (X1 I c) (addf (lo (P1 I c)) (lo (P1 I (pY c)))))) rfl) $$ HF; iintro HF
  iapply (store_step c fM hiR (w := k0_pay15 (hi (P1 I c)) w) (putLo (X1 I c) (addf (lo (P1 I c)) (lo (P1 I (pY c))))) (A1 I c) ((congrArg (putHi (putLo (X1 I c) (addf (lo (P1 I c)) (lo (P1 I (pY c)))))) ((pay15_eq _ _).trans (congrArg (addf _) hw))).trans (putHi_putLo (X1 I c) (addf (lo (P1 I c)) (lo (P1 I (pY c)))) (addf (hi (P1 I c)) (hi (P1 I (pX c))))))) $$ HF; iintro HF
  rw [wp_ret]; imodintro
  iapply Hk $$ HO Hf8 HP Hs4 Hs5 HF

/-- Part 12: its halves are sent. -/
theorem part12_spec (c : Dev nD) (v3 v4 : BitVec 32) (Q : PUnit → sProp 𝕄) :
    laws I K ⊢ iprop(owing c 9
      -∗ fAt c (A1 I c)
      -∗ fresh c 9
      -∗ room (pX c) (ar 6)
      -∗ fresh c 10
      -∗ room (pY c) (ar 7)
      -∗ (owing c 11 -∗ half c 9 -∗ piece c fLo fullShare (A1 I c) -∗ flight c 10 -∗ Q ⟨⟩)
      -∗ wp frame (wpE (defs₀ (F := F)) 𝒱₀ (c : Thread nD τ) none) Set.univ
        (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v3 v4) Q) := by
  rw [k0_part12_eq_skeleton]; unfold k0_part12_skel
  simp only [Prog.lift, Prog.bind_op, Prog.bind_ret, Prog.pure_eq_ret]
  iintro #Hl HO HF Hf9 Hr9 Hf10 Hr10 Hk
  ihave H := (f_split c (A1 I c)) $$ HF
  icases H with ⟨HA, HB⟩
  iapply (send_step I K c 9 (m := 9) (m' := 10) rfl rfl (e := pX c) rfl (dev12_eq c) rfl rfl (src := fLo) (dst := ar 6) rfl (q := fullShare) (fs := A1 I c) (Entails.refl _) (lands_9 I c))
    $$ Hl Hf9 HA Hr9 HO
  iintro Hf9 HO
  iapply (send_step I K c 10 (m := 10) (m' := 11) rfl rfl (e := pY c) rfl (dev13_eq c) rfl rfl (src := fHi) (dst := ar 7) rfl (q := fullShare) (fs := A1 I c) (Entails.refl _) (lands_10 I c))
    $$ Hl Hf10 HB Hr10 HO
  iintro Hf10 HO
  iapply (wait_send I K c 9 11 rfl (src := ar 6) (dst := fLo) rfl (P := piece c fLo fullShare (A1 I c)) rfl) $$ Hl Hf9 HO
  iintro Hf9 HA HO
  rw [wp_ret]; imodintro
  iapply Hk $$ HO Hf9 HA Hf10

/-- Part 13: copies 9 and 10 end, and the lower half of the second sum is stored. -/
theorem part13_spec (c : Dev nD) (v3 : BitVec 32) (Q : (Σ' (v341 : Vec F S128x512 .f32), FVec F S128x512 .f32) → sProp 𝕄) :
    laws I K ⊢ iprop(owing c 11
      -∗ half c 9
      -∗ piece c fLo fullShare (A1 I c)
      -∗ flight c 10
      -∗ (∀ w, ⌜shapeCast S128x512 w shapeCasts_S1x128x512_S128x512 = hi (A1 I (pY c))⌝ -∗ owing c 11 -∗ done c 9 -∗ done c 10 -∗ fAt c (putLo (A1 I c) (addf (lo (A1 I c)) (lo (A1 I (pX c))))) -∗ held c (ar 6) (lo (A1 I (pX c))) -∗ held c (ar 7) (hi (A1 I (pY c))) -∗ Q ⟨hi (A1 I c), k0_pay17 w⟩)
      -∗ wp frame (wpE (defs₀ (F := F)) 𝒱₀ (c : Thread nD τ) none) Set.univ
        (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v3) Q) := by
  rw [k0_part13_eq_skeleton]; unfold k0_part13_skel
  simp only [Prog.lift, Prog.bind_op, Prog.bind_ret, Prog.pure_eq_ret]
  iintro #Hl HO Hf9 HA Hf10 Hk
  iapply (wait_recv I K c 9 11 (by decide) rfl (src := fLo) (dst := ar 6) rfl (P := held c (ar 6) (lo (A1 I (pX c)))) rfl) $$ Hl Hf9 HO
  iintro Hf9 Hs6 HO
  iapply (wait_send I K c 10 11 rfl (src := ar 7) (dst := fHi) rfl (P := piece c fHi fullShare (A1 I c)) rfl) $$ Hl Hf10 HO
  iintro Hf10 HB HO
  iapply (wait_recv I K c 10 11 (by decide) rfl (src := fHi) (dst := ar 7) rfl (P := held c (ar 7) (hi (A1 I (pY c)))) rfl) $$ Hl Hf10 HO
  iintro Hf10 Hs7 HO
  ihave HF := (f_join c (A1 I c)) $$ [HA HB]
  · isplitl [HA] <;> iassumption
  iapply (load_step c fM loR (A1 I c) (lo (A1 I c)) rfl) $$ HF; iintro HF
  iapply (load_ar c 6 (lo (A1 I (pX c)))) $$ Hs6; iintro %v %hv Hs6
  iapply (load_step c fM loR (A1 I c) (lo (A1 I c)) rfl) $$ HF; iintro HF
  iapply (store_step c fM loR (w := k0_pay16 (lo (A1 I c)) v) (A1 I c) (putLo (A1 I c) (addf (lo (A1 I c)) (lo (A1 I (pX c))))) (congrArg (putLo (A1 I c)) ((pay16_eq _ _).trans (congrArg (addf _) hv)))) $$ HF; iintro HF
  iapply (load_step c fM hiR (putLo (A1 I c) (addf (lo (A1 I c)) (lo (A1 I (pX c))))) (hi (A1 I c)) (hi_putLo _ _)) $$ HF; iintro HF
  iapply (load_ar c 7 (hi (A1 I (pY c)))) $$ Hs7; iintro %w %hw Hs7
  rw [wp_ret]; imodintro
  iapply Hk $$ %w %hw HO Hf9 Hf10 HF Hs6 Hs7

end Cert.KernelIdeal.Hand

end
-- ==== Proof.Ideal.PartsD.lean ====
/-
# The body's parts 14 to 16: the third product, and the exchange of its row blocks
-/
module

public import proofs.«01_k».proof.Proof.Ideal.Rows

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F) (K : Dev nD × Cell → ℕ)

/-- Part 14: the last sum, the third product, and copy 11. -/
theorem part14_spec (c : Dev nD) (v3 v4 v6 : BitVec 32) (p : Vec F S256x512 .f32) (w : Vec F S1x128x512 .f32) (hw : shapeCast S128x512 w shapeCasts_S1x128x512_S128x512 = hi (A1 I (pY c)))
    (Q : BitVec 32 → sProp 𝕄) :
    laws I K ⊢ iprop(owing c 11
      -∗ fAt c (putLo (A1 I c) (addf (lo (A1 I c)) (lo (A1 I (pX c)))))
      -∗ pAt c p
      -∗ holds c cc0_stg5_0 (I.u2 c)
      -∗ holds c cc0_stg6_0 (I.v2 c)
      -∗ fresh c 11
      -∗ room (pY c) (rs 0)
      -∗ (∀ r, owing c 12 -∗ fAt c (X2 I c) -∗ holds c cc0_stg5_0 (I.u2 c) -∗ holds c cc0_stg6_0 (I.v2 c) -∗ flight c 11 -∗ piece c (pRow c) fullShare (P2 I c) -∗ piece c (pRow (pX c)) fullShare (P2 I c) -∗ piece c (pRow (pD c)) fullShare (P2 I c) -∗ Q r)
      -∗ wp frame (wpE (defs₀ (F := F)) 𝒱₀ (c : Thread nD τ) none) Set.univ
        (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v3 v4 v6 (hi (A1 I c)) (k0_pay17 w)) Q) := by
  rw [k0_part14_eq_skeleton]; unfold k0_part14_skel
  simp only [Prog.lift, Prog.bind_op, Prog.bind_ret, Prog.pure_eq_ret]
  iintro #Hl HO HF HP Hu Hv Hf11 Hr11 Hk
  iapply (load_step c fM hiR (putLo (A1 I c) (addf (lo (A1 I c)) (lo (A1 I (pX c))))) (hi (A1 I c)) (hi_putLo _ _)) $$ HF; iintro HF
  iapply (store_step c fM hiR (w := k0_pay18 (hi (A1 I c)) (k0_pay17 w)) (putLo (A1 I c) (addf (lo (A1 I c)) (lo (A1 I (pX c))))) (X2 I c) ((congrArg (putHi (putLo (A1 I c) (addf (lo (A1 I c)) (lo (A1 I (pX c)))))) ((pay18_eq _ _).trans (congrArg (addf _) hw))).trans (putHi_putLo (A1 I c) (addf (lo (A1 I c)) (lo (A1 I (pX c)))) (addf (hi (A1 I c)) (hi (A1 I (pY c))))))) $$ HF; iintro HF
  iapply (load_step c (Memref.whole cc0_scratch0) _ (X2 I c) (X2 I c) (Memref.readAt_unit_zero (Elt F) cc0_scratch0 hz _ _)) $$ HF; iintro HF
  iapply (load_step c (Memref.whole cc0_stg5_0) _ (I.u2 c) (I.u2 c) (Memref.readAt_unit_zero (Elt F) cc0_stg5_0 hz _ _)) $$ Hu; iintro Hu
  iapply (load_step c (Memref.whole cc0_stg6_0) _ (I.v2 c) (I.v2 c) (Memref.readAt_unit_zero (Elt F) cc0_stg6_0 hz _ _)) $$ Hv; iintro Hv
  iapply (load_step c (Memref.whole cc0_scratch1) _ p p (Memref.readAt_unit_zero (Elt F) cc0_scratch1 hz _ _)) $$ HP; iintro HP
  iapply (store_step c (Memref.whole cc0_scratch1) _ p (P2 I c) ((Memref.write_access_unit_zero_univ (Elt F) cc0_scratch1 hz _ _ _).trans (pay19_eq _ _ _))) $$ HP; iintro HP
  ihave H := (Entails.of_eq (p_rows_eq c (P2 I c))) $$ HP
  icases H with ⟨Hp0, HpY, HpX, HpD⟩
  iapply (send_row I K c (pY c) (k0_off5_inb c) (off5_eq c) 11 (m := 11) (m' := 12) rfl rfl (e := pY c) rfl (dev14_eq c) rfl rfl (dst := rs 0) rfl
      (P2 I c) (Entails.refl _) (lands_11 I c)) $$ Hl Hf11 HpY Hr11 HO
  iintro Hf11 HO
  rw [wp_ret]; imodintro
  iapply Hk $$ %_ HO HF Hu Hv Hf11 Hp0 HpX HpD

/-- Part 15: copies 12 and 13, and the end of copy 11. -/
theorem part15_spec (c : Dev nD) (v3 v6 r : BitVec 32) (Q : PUnit → sProp 𝕄) :
    laws I K ⊢ iprop(owing c 12
      -∗ flight c 11
      -∗ piece c (pRow (pX c)) fullShare (P2 I c)
      -∗ piece c (pRow (pD c)) fullShare (P2 I c)
      -∗ fresh c 12
      -∗ room (pX c) (rs 1)
      -∗ fresh c 13
      -∗ room (pD c) (rs 2)
      -∗ (owing c 14 -∗ done c 11 -∗ piece c (pRow (pY c)) fullShare (P2 I c) -∗ held c (rs 0) (rows c (P2 I (pY c))) -∗ flight c 12 -∗ flight c 13 -∗ Q ⟨⟩)
      -∗ wp frame (wpE (defs₀ (F := F)) 𝒱₀ (c : Thread nD τ) none) Set.univ
        (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v3 v6 r) Q) := by
  rw [k0_part15_eq_skeleton]; unfold k0_part15_skel
  simp only [Prog.lift, Prog.bind_op, Prog.bind_ret, Prog.pure_eq_ret]
  iintro #Hl HO Hf11 HpX HpD Hf12 Hr12 Hf13 Hr13 Hk
  iapply (send_row I K c (pX c) (k0_off6_inb c) (off6_eq c) 12 (m := 12) (m' := 13) rfl rfl (e := pX c) rfl (dev15_eq c) rfl rfl (dst := rs 1) rfl
      (P2 I c) (Entails.refl _) (lands_12 I c)) $$ Hl Hf12 HpX Hr12 HO
  iintro Hf12 HO
  iapply (send_row I K c (pD c) (k0_off7_inb c) (off7_eq c) 13 (m := 13) (m' := 14) rfl rfl (e := pD c) rfl (dev16_eq c) rfl rfl (dst := rs 2) rfl
      (P2 I c) (Entails.refl _) (lands_13 I c)) $$ Hl Hf13 HpD Hr13 HO
  iintro Hf13 HO
  iapply (wait_send I K c 11 14 rfl (src := rs 0) (dst := pOff (k0_off5 c) (k0_off5_inb c)) rfl (P := piece c (pRow (pY c)) fullShare (P2 I c)) rfl) $$ Hl Hf11 HO
  iintro Hf11 HpY HO
  iapply (wait_recv I K c 11 14 (by decide) rfl (src := pOff (k0_off5 c) (k0_off5_inb c)) (dst := rs 0) rfl (P := held c (rs 0) (rows c (P2 I (pY c)))) rfl) $$ Hl Hf11 HO
  iintro Hf11 Hs0 HO
  rw [wp_ret]; imodintro
  iapply Hk $$ HO Hf11 HpY Hs0 Hf12 Hf13

/-- Part 16: the end of copies 12 and 13. -/
theorem part16_spec (c : Dev nD) (v2 v4 v6 : BitVec 32) (Q : BitVec 32 → sProp 𝕄) :
    laws I K ⊢ iprop(owing c 14
      -∗ flight c 12
      -∗ flight c 13
      -∗ (∀ r, owing c 14 -∗ done c 12 -∗ done c 13 -∗ piece c (pRow (pX c)) fullShare (P2 I c) -∗ piece c (pRow (pD c)) fullShare (P2 I c) -∗ held c (rs 1) (rows c (P2 I (pX c))) -∗ held c (rs 2) (rows c (P2 I (pD c))) -∗ Q r)
      -∗ wp frame (wpE (defs₀ (F := F)) 𝒱₀ (c : Thread nD τ) none) Set.univ
        (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 v4 v6) Q) := by
  rw [k0_part16_eq_skeleton]; unfold k0_part16_skel
  simp only [Prog.lift, Prog.bind_op, Prog.bind_ret, Prog.pure_eq_ret]
  iintro #Hl HO Hf12 Hf13 Hk
  iapply (wait_send I K c 12 14 rfl (src := rs 1) (dst := pOff (k0_off6 c) (k0_off6_inb c)) rfl (P := piece c (pRow (pX c)) fullShare (P2 I c)) rfl) $$ Hl Hf12 HO
  iintro Hf12 HpX HO
  iapply (wait_recv I K c 12 14 (by decide) rfl (src := pOff (k0_off6 c) (k0_off6_inb c)) (dst := rs 1) rfl (P := held c (rs 1) (rows c (P2 I (pX c)))) rfl) $$ Hl Hf12 HO
  iintro Hf12 Hs1 HO
  iapply (wait_send I K c 13 14 rfl (src := rs 2) (dst := pOff (k0_off7 c) (k0_off7_inb c)) rfl (P := piece c (pRow (pD c)) fullShare (P2 I c)) rfl) $$ Hl Hf13 HO
  iintro Hf13 HpD HO
  iapply (wait_recv I K c 13 14 (by decide) rfl (src := pOff (k0_off7 c) (k0_off7_inb c)) (dst := rs 2) rfl (P := held c (rs 2) (rows c (P2 I (pD c)))) rfl) $$ Hl Hf13 HO
  iintro Hf13 Hs2 HO
  rw [wp_ret]; imodintro
  iapply Hk $$ %_ HO Hf12 Hf13 HpX HpD Hs1 Hs2

end Cert.KernelIdeal.Hand

end
-- ==== Proof.Ideal.Body.lean ====
/-
# The body at one device

The sixteen parts in order, then the sum of the device's own row block of the last product and the three
that its peers sent.  Every slot is back at the end, and every semaphore at zero.
-/
module

public import proofs.«01_k».proof.Proof.Ideal.PartsA
public import proofs.«01_k».proof.Proof.Ideal.PartsB
public import proofs.«01_k».proof.Proof.Ideal.PartsC
public import proofs.«01_k».proof.Proof.Ideal.PartsD

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F) (K : Dev nD × Cell → ℕ)

/-- The five scratch buffers of a device, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- The seven staged inputs of a device. -/
def staged (c : Dev nD) : sProp 𝕄 :=
  iprop(holds c cc0_stg0_0 (I.x c) ∗ holds c cc0_stg1_0 (I.u0 c) ∗ holds c cc0_stg2_0 (I.v0 c) ∗ holds c cc0_stg3_0 (I.u1 c) ∗ holds c cc0_stg4_0 (I.v1 c) ∗ holds c cc0_stg5_0 (I.u2 c) ∗ holds c cc0_stg6_0 (I.v2 c))

/-- What a device starts with for its semaphores: what it may signal and copy onto, and what its waits take. -/
def tickets (c : Dev nD) : sProp 𝕄 :=
  iprop(dutyTok ER (barCell (pY c)) 0 false ∗ dutyTok ER (barCell (pX c)) 0 true ∗ atPos ER (barCell c) 0 ∅ 0
    ∗ cred (tallyAt (barCell c) () 2) ∗ bigSep Finset.univ fun k : Fin 14 => fresh (F := F) c k)

/-- The landing buffers, cut into the slots that the two neighbours are given. -/
theorem rooms_out (c : Dev nD) : (iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)) : sProp 𝕄)
    ⊢ iprop(giveY c ∗ giveX c) := by
  iintro ⟨H1, H2, H3⟩
  ihave H1 := (ag_split c) $$ H1
  ihave H2 := (ar_split c) $$ H2
  ihave H3 := (rs_split c) $$ H3
  icases H1 with ⟨G0, G1, G2⟩
  icases H2 with ⟨A0, A1, A2, A3, A4, A5, A6, A7⟩
  icases H3 with ⟨R0, R1, R2⟩
  unfold giveY giveX
  isplitl [G0 A0 A3 A4 A7 R0 R2]
  · isplitl [G0]; · iexact G0
    isplitl [A0]; · iexact A0
    isplitl [A3]; · iexact A3
    isplitl [A4]; · iexact A4
    isplitl [A7]; · iexact A7
    isplitl [R0]; · iexact R0
    iexact R2
  · isplitl [G1]; · iexact G1
    isplitl [G2]; · iexact G2
    isplitl [A1]; · iexact A1
    isplitl [A2]; · iexact A2
    isplitl [A5]; · iexact A5
    isplitl [A6]; · iexact A6
    iexact R1

/-- And back: what has landed in the slots no longer matters. -/
theorem rooms_back (c : Dev nD) : (iprop((held c (ag 0) (I.x (pY c)) ∗ held c (ag 1) (I.x (pX c)) ∗ held c (ag 2) (I.x (pD c)))
      ∗ (held c (ar 0) (lo (P0 I (pY c))) ∗ held c (ar 1) (hi (P0 I (pX c))) ∗ held c (ar 2) (lo (A0 I (pX c))) ∗ held c (ar 3) (hi (A0 I (pY c))) ∗ held c (ar 4) (lo (P1 I (pY c))) ∗ held c (ar 5) (hi (P1 I (pX c))) ∗ held c (ar 6) (lo (A1 I (pX c))) ∗ held c (ar 7) (hi (A1 I (pY c))))
      ∗ (held c (rs 0) (rows c (P2 I (pY c))) ∗ held c (rs 1) (rows c (P2 I (pX c))) ∗ held c (rs 2) (rows c (P2 I (pD c))))) : sProp 𝕄)
    ⊢ iprop((∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)) :=
  BIClass.sep_mono ((BIClass.sep_mono (held_room _ _ _) (BIClass.sep_mono (held_room _ _ _) (held_room _ _ _))).trans (ag_join c))
    (BIClass.sep_mono ((BIClass.sep_mono (held_room _ _ _) (BIClass.sep_mono (held_room _ _ _) (BIClass.sep_mono (held_room _ _ _) (BIClass.sep_mono (held_room _ _ _)
        (BIClass.sep_mono (held_room _ _ _) (BIClass.sep_mono (held_room _ _ _) (BIClass.sep_mono (held_room _ _ _) (held_room _ _ _)))))))).trans (ar_join c))
      ((BIClass.sep_mono (held_room _ _ _) (BIClass.sep_mono (held_room _ _ _) (held_room _ _ _))).trans (rs_join c)))

/-- The body at device `c`: from its inputs to its block of the result. -/
theorem body_spec (c : Dev nD) (Q : PUnit → sProp 𝕄) :
    laws I K ⊢ iprop(tickets c -∗ (∃ W, owes (c : Thread nD τ) (O₀ c) W) -∗ scratch c -∗ staged I c -∗ (∃ f, holds c cc0_stg7_0 f)
      -∗ (owing c 14 -∗ semVal (barCell c) 0 -∗ (bigSep Finset.univ fun k : Fin 14 => done c k) -∗ scratch c -∗ staged I c
          -∗ holds c cc0_stg7_0 (out I c) -∗ Q ⟨⟩)
      -∗ wp frame (wpE (defs₀ (F := F)) 𝒱₀ (c : Thread nD τ) none) Set.univ
        (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q) := by
  rw [cc0_body_eq_skeleton]; unfold cc0_body_skel tickets scratch staged
  iintro #Hl ⟨HtY, HtX, HaB, HcB, Hf⟩ HO ⟨⟨%f, HF⟩, ⟨%p, HP⟩, HS⟩ ⟨Hx, Hu0, Hv0, Hu1, Hv1, Hu2, Hv2⟩ ⟨%o, Ho⟩ Hk
  ihave Hf := (Entails.of_eq (sep_fin14 _)) $$ Hf
  icases Hf with ⟨Hf0, Hf1, Hf2, Hf3, Hf4, Hf5, Hf6, Hf7, Hf8, Hf9, Hf10, Hf11, Hf12, Hf13⟩
  ihave HS := (rooms_out c) $$ HS
  icases HS with ⟨HgY, HgX⟩
  ihave Hx := (x_split c (I.x c)) $$ Hx
  icases Hx with ⟨Hx, Hx'⟩
  rw [wp_bind]
  iapply (part1_spec I K c _) $$ Hl HtY HtX HaB HcB HgY HgX HO Hf0 Hx
  iintro %v2 %v3 %v4 %v6 HO Hf0 HzB HRY HRX
  unfold leftY leftX
  icases HRY with ⟨Hr3, Hr6, Hr7, Hr10, Hr11, Hrs⟩
  icases HRX with ⟨Hr1, Hr2, Hr4, Hr5, Hr8, Hr9, Hr12⟩
  rw [wp_bind]
  iapply (part2_spec I K c _ _ _ _) $$ Hl HO Hf0 Hf1 Hx' Hr1 Hrs
  iintro HO Hf0 Hf1 Hx Ha0 Ha1 Hr13
  rw [wp_bind]
  iapply (part3_spec I K c _ _ f _) $$ Hl HO HF Ha0 Ha1 Hf2 Hr2
  iintro HO HF Ha1 Hf2
  rw [wp_bind]
  iapply (part4_spec I K c _ _ f p _) $$ Hl HO HF HP Hu0 Hv0 Hf2
  iintro HO HF HP Hu0 Hv0 Hf2 Ha0 Ha2
  rw [wp_bind]
  iapply (part5_spec I K c _ _ p p _) $$ Hl HO HP Hf3 Hr3 Hf4 Hr4
  iintro %r5 HO Hf3 Hf4 HA
  rw [wp_bind]
  iapply (part6_spec I K c _ _ _) $$ Hl HO Hf3 Hf4 HA HF
  iintro HO Hf3 Hf4 HP Hs0 Hs1 HF
  rw [wp_bind]
  iapply (part7_spec I K c _ _ _) $$ Hl HO HP Hs1 HF Hf5 Hr5 Hf6 Hr6
  iintro HO Hf5 Hf6 HP Hs1
  rw [wp_bind]
  iapply (part8_spec I K c _ _ _) $$ Hl HO Hf5 Hf6
  iintro %w %hw HO Hf5 Hf6 HF Hs2 Hs3
  rw [wp_bind]
  iapply (part9_spec I K c _ _ w hw _) $$ Hl HF Hs3 HP Hu1 Hv1
  iintro HF Hs3 HP Hu1 Hv1
  rw [wp_bind]
  iapply (part10_spec I K c _ _ _) $$ Hl HO HP Hf7 Hr7 Hf8 Hr8
  iintro HO Hf7 HA Hs4 Hf8
  rw [wp_bind]
  iapply (part11_spec I K c _ _) $$ Hl HO HA Hs4 Hf8 HF
  iintro HO Hf8 HP Hs4 Hs5 HF
  rw [wp_bind]
  iapply (part12_spec I K c _ _ _) $$ Hl HO HF Hf9 Hr9 Hf10 Hr10
  iintro HO Hf9 HA Hf10
  rw [wp_bind]
  iapply (part13_spec I K c _ _) $$ Hl HO Hf9 HA Hf10
  iintro %w' %hw' HO Hf9 Hf10 HF Hs6 Hs7
  rw [wp_bind]
  iapply (part14_spec I K c _ _ _ _ w' hw' _) $$ Hl HO HF HP Hu2 Hv2 Hf11 Hr11
  iintro %r14 HO HF Hu2 Hv2 Hf11 Hp0 HpX HpD
  rw [wp_bind]
  iapply (part15_spec I K c _ _ _ _) $$ Hl HO Hf11 HpX HpD Hf12 Hr12 Hf13 Hr13
  iintro HO Hf11 HpY Ht0 Hf12 Hf13
  rw [wp_bind]
  iapply (part16_spec I K c _ _ _ _) $$ Hl HO Hf12 Hf13
  iintro %r16 HO Hf12 Hf13 HpX HpD Ht1 Ht2
  ihave HP := (Entails.of_eq (p_rows_eq c (P2 I c)).symm) $$ [Hp0 HpY HpX HpD]
  · isplitl [Hp0]; · iexact Hp0
    isplitl [HpY]; · iexact HpY
    isplitl [HpX]; · iexact HpX
    iexact HpD
  simp only [Prog.lift, Prog.bind_op, Prog.bind_ret, Prog.pure_eq_ret]
  iapply (load_row c c pM (off1_eq c) (P2 I c) (rows c (P2 I c)) rfl) $$ HP; iintro HP
  iapply (load_rs c 0 (rows c (P2 I (pY c)))) $$ Ht0; iintro %a %ha Ht0
  iapply (load_rs c 1 (rows c (P2 I (pX c)))) $$ Ht1; iintro %b %hb Ht1
  iapply (load_rs c 2 (rows c (P2 I (pD c)))) $$ Ht2; iintro %d %hd Ht2
  iapply (load_step c (Memref.whole cc0_stg7_0) _ o _ rfl) $$ Ho; iintro Ho
  iapply (store_step c (Memref.whole cc0_stg7_0) _ o (out I c) ((Memref.write_access_unit_zero_univ (Elt F) cc0_stg7_0 hz _ _ _).trans
    ((pay1_eq _ _ _ _).trans (by rw [ha, hb, hd]; rfl)))) $$ Ho; iintro Ho
  rw [wp_ret]; imodintro
  ihave HS := (rooms_back I c) $$ [Ha0 Ha1 Ha2 Hs0 Hs1 Hs2 Hs3 Hs4 Hs5 Hs6 Hs7 Ht0 Ht1 Ht2]
  · isplitl [Ha0 Ha1 Ha2]
    · isplitl [Ha0]; · iexact Ha0
      isplitl [Ha1]; · iexact Ha1
      iexact Ha2
    isplitl [Hs0 Hs1 Hs2 Hs3 Hs4 Hs5 Hs6 Hs7]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    · isplitl [Ht0]; · iexact Ht0
      isplitl [Ht1]; · iexact Ht1
      iexact Ht2
  iapply Hk $$ HO HzB [Hf0 Hf1 Hf2 Hf3 Hf4 Hf5 Hf6 Hf7 Hf8 Hf9 Hf10 Hf11 Hf12 Hf13] [HF HP HS] [Hx Hu0 Hv0 Hu1 Hv1 Hu2 Hv2] Ho
  · iapply (Entails.of_eq (sep_fin14 _).symm)
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hf7]; · iexact Hf7
    isplitl [Hf8]; · iexact Hf8
    isplitl [Hf9]; · iexact Hf9
    isplitl [Hf10]; · iexact Hf10
    isplitl [Hf11]; · iexact Hf11
    isplitl [Hf12]; · iexact Hf12
    iexact Hf13
  · isplitl [HF]; · iexists _; iexact HF
    isplitl [HP]; · iexists _; iexact HP
    iexact HS
  · isplitl [Hx]; · iexact Hx
    isplitl [Hu0]; · iexact Hu0
    isplitl [Hv0]; · iexact Hv0
    isplitl [Hu1]; · iexact Hu1
    isplitl [Hv1]; · iexact Hv1
    isplitl [Hu2]; · iexact Hu2
    iexact Hv2

end Cert.KernelIdeal.Hand

end
-- ==== Proof.Ideal.Deal.lean ====
/-
# What each device starts from

At launch the cells' ghost state is minted: for every cell a position at the start of its round, and for every duty of
that round a token. The position stays with the device whose cell it is; the token goes to the device that pays
the duty — the neighbour for a barrier cell, the sender for a receive cell. Since whom a device pays is an involution for each kind of duty,
the tokens are dealt by one change of index. The credit a device holds on its own cells is what the others owe them.
-/
module

public import proofs.«01_k».proof.Proof.Ideal.Body

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F) (K : Dev nD × Cell → ℕ)

/-! ## Cells and duties are distinct -/

theorem csem_inj : Function.Injective csem := by
  intro a b h
  rcases a with _ | a | a <;> rcases b with _ | b | b
  · rfl
  · exact absurd h nofun
  · exact absurd h nofun
  · exact absurd h nofun
  · have h' : 8 + a.val = 8 + b.val := congrArg Fin.val (SemLoc.dma.inj h)
    rw [Fin.ext (by omega : a.val = b.val)]
  · have h' : 8 + a.val = 22 + b.val := congrArg Fin.val (SemLoc.dma.inj h)
    have := a.isLt; omega
  · exact absurd h nofun
  · have h' : 22 + a.val = 8 + b.val := congrArg Fin.val (SemLoc.dma.inj h)
    have := b.isLt; omega
  · have h' : 22 + a.val = 22 + b.val := congrArg Fin.val (SemLoc.dma.inj h)
    rw [Fin.ext (by omega : a.val = b.val)]

theorem kcell_inj : Function.Injective kcell := fun a b h =>
  Prod.ext (congrArg (fun g : GSem nD τ sig => g.1.1) h) (csem_inj (congrArg Prod.snd h))

/-- The duties of one device's cells: its barrier's two, one for each send cell, one for each receive cell. -/
abbrev Tok : Type := Bool ⊕ (Fin 14 ⊕ Fin 14)
/-- The cell a duty belongs to, its name there, and who pays it on device `c`'s behalf. -/
def tokCell : Tok → Cell
  | .inl _ => .inl ()
  | .inr k => .inr k
def tokDuty : Tok → Bool
  | .inl b => b
  | .inr _ => false
def payee : Tok → Dev nD → Dev nD
  | .inl false => pY
  | .inl true => pX
  | .inr (.inl _) => id
  | .inr (.inr k) => peer k.val
def tokOf (p : Dev nD × Tok) : GSem nD τ sig × ℕ × Bool := (kcell (p.1, tokCell p.2), 0, tokDuty p.2)

theorem tok_ext {a b : Tok} (h : tokCell a = tokCell b) (h' : tokDuty a = tokDuty b) : a = b := by
  rcases a with a | a <;> rcases b with b | b
  · exact congrArg _ h'
  · exact absurd h nofun
  · exact absurd h nofun
  · exact congrArg _ (Sum.inr.inj h)
theorem tokOf_inj : Function.Injective tokOf := fun a b h => by
  have h1 : (a.1, tokCell a.2) = (b.1, tokCell b.2) := kcell_inj (congrArg (fun x : GSem nD τ sig × ℕ × Bool => x.1) h)
  have h2 : tokDuty a.2 = tokDuty b.2 := congrArg (fun x : GSem nD τ sig × ℕ × Bool => x.2.2) h
  have h3 : a.1 = b.1 := congrArg (fun p : Dev nD × Cell => p.1) h1
  have h4 : tokCell a.2 = tokCell b.2 := congrArg (fun p : Dev nD × Cell => p.2) h1
  exact Prod.ext h3 (tok_ext h4 h2)

theorem payee_payee (t : Tok) (c : Dev nD) : payee t (payee t c) = c := by
  rcases t with (_ | _) | _ | k
  · exact pY_pY c
  · exact pX_pX c
  · rfl
  · exact peer_peer k c
/-- The change of index: duty `t` of device `payee t c` is paid by device `c`. -/
def deal : Dev nD × Tok ≃ Dev nD × Tok where
  toFun p := (payee p.2 p.1, p.2)
  invFun p := (payee p.2 p.1, p.2)
  left_inv p := Prod.ext (payee_payee p.2 p.1) rfl
  right_inv p := Prod.ext (payee_payee p.2 p.1) rfl

/-! ## The ghost state at launch -/

def allCells : Finset (GSem nD τ sig) := Finset.univ.map ⟨kcell, kcell_inj⟩
def allToks : Finset (GSem nD τ sig × ℕ × Bool) := Finset.univ.map ⟨tokOf, tokOf_inj⟩

/-- The launch's ghost element: the staging cells' and the kernel's own cells'. -/
def u₀ : UU := (initOf (Pipeline.cells cfgs cellOf_inj) (Pipeline.launchToks cfgs cellOf_inj), initOf allCells allToks)

/-- What it deals device `c`: its cells' state, positions and tokens. -/
def G (c : Dev nD) : sProp 𝕄 :=
  iprop((bigSep Finset.univ fun q : Cell => roundState ER (Rd I) (kcell (c, q)) 0)
    ∗ (bigSep Finset.univ fun q : Cell => reached ER (kcell (c, q)) 0)
    ∗ (bigSep Finset.univ fun q : Cell => atPos ER (kcell (c, q)) 0 ∅ 0)
    ∗ bigSep Finset.univ fun t : Tok => dutyTok ER (tokOf (c, t)).1 (tokOf (c, t)).2.1 (tokOf (c, t)).2.2)

/-- What stays with device `c` alone: its positions, and the tokens of the duties it pays. -/
def linear (c : Dev nD) : sProp 𝕄 :=
  iprop((bigSep Finset.univ fun q : Cell => atPos ER (kcell (c, q)) 0 ∅ 0)
    ∗ bigSep Finset.univ fun t : Tok => dutyTok ER (kcell (payee t c, tokCell t)) 0 (tokDuty t))

/-- The cells' invariants at the names `K`, and that each cell's round is open. -/
def records : sProp 𝕄 :=
  iprop((bigSep Finset.univ fun p : Dev nD × Cell => cellInv ER (Rd I) (K p) (kcell p))
    ∗ bigSep Finset.univ fun p : Dev nD × Cell => reached ER (kcell p) 0)

instance records_persistent : BI.Persistent (records (F := F) I K) := by unfold records; infer_instance

/-- What device `c` has once the cells' invariants are set up. -/
def G' (c : Dev nD) : sProp 𝕄 := iprop(∃ K, records I K ∗ linear (F := F) c)

theorem mint : BI.own (ER (initOf allCells allToks)) ⊢ (|==> bigSep Finset.univ (G I) : sProp 𝕄) := by
  have hc (Φ : GSem nD τ sig → sProp 𝕄) : bigSep allCells Φ = bigSep Finset.univ fun c : Dev nD => bigSep Finset.univ fun q : Cell => Φ (kcell (c, q)) := by
    unfold allCells; rw [bigSep_map, bigSep_univ_prod]; rfl
  have ht (Φ : GSem nD τ sig × ℕ × Bool → sProp 𝕄) : bigSep allToks Φ = bigSep Finset.univ fun c : Dev nD => bigSep Finset.univ fun t : Tok => Φ (tokOf (c, t)) := by
    unfold allToks; rw [bigSep_map, bigSep_univ_prod]; rfl
  refine (Rounds.fund ER (Rd I) allCells allToks).trans (BI.bupd_mono ?_)
  rw [hc, hc, hc, ht]
  unfold G
  rw [bigSep_sep', bigSep_sep', bigSep_sep']
  exact Entails.refl _

/-! ## Its own semaphores become cells -/

/-- The kernel's own semaphores: the send cells' and the receive cells'. -/
abbrev osem : Fin 14 ⊕ Fin 14 → SemLoc sig := fun k => csem (.inr k)

theorem unscoped_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    (bigSep Finset.univ fun q : Cell => semVal (kcell (c, q)) 0 : sProp 𝕄)
      = iprop(unscopedSems0 c ∗ Pipeline.ownSems0 (Ix := Unit) (Name := ℕ) (U := UU) (Lvl := ℕ) (Val := Elt F) (τ := τ) osem c) := by
  rw [BI.bigSep_univ_sum, unscoped_eq, bigSep_univ_eq_bigSepL [()] (by decide) (by decide), bigSepL_singleton]
  rfl

/-- Every device's cells are given an invariant, and the tokens are dealt. -/
theorem setup (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun q : Cell => iprop(∃ κ : ℕ, cellInv ER (Rd I) κ (kcell (c, q))))
          ∗ (bigSep Finset.univ fun q : Cell => reached ER (kcell (c, q)) 0)
          ∗ (bigSep Finset.univ fun q : Cell => atPos ER (kcell (c, q)) 0 ∅ 0)
          ∗ bigSep Finset.univ fun t : Tok => dutyTok ER (tokOf (c, t)).1 (tokOf (c, t)).2.1 (tokOf (c, t)).2.2) := by
  have hi : iprop((bigSep Finset.univ fun q : Cell => semVal (kcell (c, q)) 0) ∗ bigSep Finset.univ fun q : Cell => roundState ER (Rd I) (kcell (c, q)) 0)
      ⊢ (|={Set.univ}=> bigSep Finset.univ fun q : Cell => iprop(∃ κ : ℕ, cellInv ER (Rd I) κ (kcell (c, q))) : sProp 𝕄) := by
    rw [← bigSep_sep']
    exact (bigSep_mono fun q _ => (Rounds.body_intro ER (Rd I) (kcell (c, q))).trans inv_alloc).trans (bigSep_fupd _ _)
  unfold G
  iintro ⟨Ho, Hu, Hst, Hrest⟩
  imod hi $$ [Ho Hu Hst] with HI
  · isplitr [Hst]
    · rw [sems_eq]; isplitl [Hu] <;> iassumption
    · iexact Hst
  imodintro
  isplitl [HI] <;> iassumption

theorem dealt : (bigSep Finset.univ fun c : Dev nD => bigSep Finset.univ fun t : Tok => dutyTok ER (tokOf (c, t)).1 (tokOf (c, t)).2.1 (tokOf (c, t)).2.2)
    = (bigSep Finset.univ fun c : Dev nD => bigSep Finset.univ fun t : Tok => dutyTok ER (kcell (payee t c, tokCell t)) 0 (tokDuty t) : sProp 𝕄) := by
  rw [← bigSep_univ_prod (fun p : Dev nD × Tok => (dutyTok ER (tokOf p).1 (tokOf p).2.1 (tokOf p).2.2 : sProp 𝕄)),
    ← bigSep_univ_prod (fun p : Dev nD × Tok => (dutyTok ER (kcell (payee p.2 p.1, tokCell p.2)) 0 (tokDuty p.2) : sProp 𝕄)),
    bigSep_univ_equiv deal (fun p : Dev nD × Tok => (dutyTok ER (tokOf p).1 (tokOf p).2.1 (tokOf p).2.2 : sProp 𝕄))]
  rfl

/-- A persistent fact may be used at every index. -/
theorem everywhere {ι : Type} [DecidableEq ι] (S : Finset ι) (R : sProp 𝕄) [BI.Persistent R] (Φ Ψ : ι → sProp 𝕄) (h : ∀ i, iprop(R ∗ Φ i) ⊢ Ψ i) :
    iprop(R ∗ bigSep S Φ) ⊢ bigSep S Ψ := by
  have hr : iprop(R ∗ bigSep S Φ) ⊢ iprop((bigSep S fun _ => R) ∗ bigSep S Φ) := sep_mono_left (BI.bigSep_of_persistent S R)
  rw [← bigSep_sep'] at hr
  exact hr.trans (bigSep_mono fun i _ => h i)

theorem gathered :
    (bigSep Finset.univ fun c : Dev nD => iprop((bigSep Finset.univ fun q : Cell => iprop(∃ κ : ℕ, cellInv ER (Rd I) κ (kcell (c, q))))
          ∗ (bigSep Finset.univ fun q : Cell => reached ER (kcell (c, q)) 0)
          ∗ (bigSep Finset.univ fun q : Cell => atPos ER (kcell (c, q)) 0 ∅ 0)
          ∗ bigSep Finset.univ fun t : Tok => dutyTok ER (tokOf (c, t)).1 (tokOf (c, t)).2.1 (tokOf (c, t)).2.2) : sProp 𝕄)
      ⊢ bigSep Finset.univ (G' I) := by
  rw [bigSep_sep', bigSep_sep', bigSep_sep', dealt, ← bigSep_univ_prod (fun p : Dev nD × Cell => iprop(∃ κ : ℕ, cellInv ER (Rd I) κ (kcell p))),
    ← bigSep_univ_prod (fun p : Dev nD × Cell => (reached ER (kcell p) 0 : sProp 𝕄))]
  iintro ⟨HI, #HR, Hlin⟩
  ihave HK := (BI.bigSep_exists_pi Finset.univ (fun (p : Dev nD × Cell) (κ : ℕ) => (cellInv ER (Rd I) κ (kcell p) : sProp 𝕄))) $$ HI
  icases HK with ⟨%K, #HI⟩
  iapply (everywhere Finset.univ (records I K) (linear (F := F)) (G' I) fun c => by
    unfold G'; iintro H; iexists K; iexact H)
  isplitr
  · unfold records; isplitl
    · iexact HI
    · iexact HR
  · unfold linear
    rw [bigSep_sep']
    iexact Hlin

/-- The step all devices take together before the bodies run. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => setup I c).trans (bigSep_fupd _ _)).trans (BI.fupd_mono (gathered I))

/-! ## The credit -/

/-- The credit device `c` holds at launch: two units on its barrier cell, a copy's worth on each receive cell. -/
def credits (c : Dev nD) : sProp 𝕄 :=
  iprop(cred (tallyAt (barCell c) () 2) ∗ bigSep Finset.univ fun k : Fin 14 => cred (tallyAt (recvCell c k) () (amt k)))

theorem owed_all (c : Dev nD) : owed c 0 = ∑ k : Fin 14, due c k := by
  unfold owed; rw [Finset.filter_true_of_mem fun k _ => Nat.zero_le _]

theorem launch_credits (c : Dev nD) : (Pipeline.launchCred O₀ c : sProp 𝕄) ⊢ credits c := by
  have hb : (iprop(cred (tallyAt (barCell c) () 1) ∗ cred (tallyAt (barCell c) () 1)) : sProp 𝕄) ⊢ cred (tallyAt (barCell c) () 2) := by
    refine (cred_add _ _).2.trans (Entails.of_eq (congrArg cred ?_))
    exact tallyAt_add _ _ _ _
  have hk : (bigSep Finset.univ fun k : Fin 14 => (Pipeline.launchCred (fun d => due d k) c : sProp 𝕄))
      ⊢ bigSep Finset.univ fun k : Fin 14 => cred (tallyAt (recvCell c k) () (amt k)) :=
    bigSep_mono fun k _ => Pipeline.launchCred_tallyAt (.dma (recvS k)) (peer k) (peer k) (peer_peer k) (peer_peer k) () (amt k) c
  rw [show (O₀ : Dev nD → CellTallies nD τ sig Unit)
      = fun d => (∑ k : Fin 14, due d k) + tallyAt (barCell (pX d)) () 1 + tallyAt (barCell (pY d)) () 1 from funext fun d => by
        unfold O₀ O₁; rw [owed_all],
    Pipeline.launchCred_add, Pipeline.launchCred_add, Pipeline.launchCred_sum]
  unfold credits
  iintro ⟨⟨Hk, Hx⟩, Hy⟩
  isplitl [Hx Hy]
  · iapply hb
    isplitl [Hx]
    · iapply (Pipeline.launchCred_tallyAt (.reg barS) pX pX pX_pX pX_pX () 1 c); iexact Hx
    · iapply (Pipeline.launchCred_tallyAt (.reg barS) pY pY pY_pY pY_pY () 1 c); iexact Hy
  · iapply hk
    iexact Hk

theorem over_cells (Φ : Cell → sProp 𝕄) : bigSep Finset.univ Φ
    = iprop(Φ (.inl ()) ∗ (bigSep Finset.univ fun k : Fin 14 => Φ (.inr (.inl k))) ∗ bigSep Finset.univ fun k : Fin 14 => Φ (.inr (.inr k))) := by
  rw [BI.bigSep_univ_sum, BI.bigSep_univ_sum, bigSep_univ_eq_bigSepL [()] (by decide) (by decide), bigSepL_singleton]
  rfl
theorem over_toks (Φ : Tok → sProp 𝕄) : bigSep Finset.univ Φ
    = iprop((Φ (.inl false) ∗ Φ (.inl true)) ∗ (bigSep Finset.univ fun k : Fin 14 => Φ (.inr (.inl k))) ∗ bigSep Finset.univ fun k : Fin 14 => Φ (.inr (.inr k))) := by
  rw [BI.bigSep_univ_sum, BI.bigSep_univ_sum, bigSep_univ_eq_bigSepL [false, true] (by decide) (by decide), bigSepL_cons_cons, bigSepL_singleton]
  rfl

/-- Positions, tokens and credit, copy by copy. -/
theorem tickets_intro (c : Dev nD) : (iprop(linear c ∗ credits c) : sProp 𝕄) ⊢ tickets c := by
  unfold linear credits tickets fresh
  rw [over_cells, over_toks, bigSep_sep', bigSep_sep', bigSep_sep', bigSep_sep']
  iintro ⟨⟨⟨Ha, Has, Har⟩, ⟨Hy, Hx⟩, Hts, Htr⟩, Hc, Hcr⟩
  isplitl [Hy]; · iexact Hy
  isplitl [Hx]; · iexact Hx
  isplitl [Ha]; · iexact Ha
  isplitl [Hc]; · iexact Hc
  isplitl [Hts]; · iexact Hts
  isplitl [Htr]; · iexact Htr
  isplitl [Has]; · iexact Has
  isplitl [Har]; · iexact Har
  iexact Hcr

end Cert.KernelIdeal.Hand

end
-- ==== Proof.Ideal.Launch.lean ====
/-
# The run

From any memory, with every counter at zero, the program ends; every device's result array then holds
`out` of the arguments, every argument array is as it was, and every counter is at zero again.
-/
module

public import proofs.«01_k».proof.Proof.Ideal.Deal
public import Idealize.ShloMosaic.Lib.Pipeline.CollectiveSegs

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-- The arguments, as each device's windows read them. -/
def inputs : Inputs F where
  x c := (win0_0.blk t0_0).view.read (Elt F) (m ((c : Thread nD τ).loc main_arg0))
  u0 c := (win0_1.blk t0_0).view.read (Elt F) (m ((c : Thread nD τ).loc main_arg1))
  v0 c := (win0_2.blk t0_0).view.read (Elt F) (m ((c : Thread nD τ).loc main_arg2))
  u1 c := (win0_3.blk t0_0).view.read (Elt F) (m ((c : Thread nD τ).loc main_arg3))
  v1 c := (win0_4.blk t0_0).view.read (Elt F) (m ((c : Thread nD τ).loc main_arg4))
  u2 c := (win0_5.blk t0_0).view.read (Elt F) (m ((c : Thread nD τ).loc main_arg5))
  v2 c := (win0_6.blk t0_0).view.read (Elt F) (m ((c : Thread nD τ).loc main_arg6))

/-- What a device starts from: its ghost state, its credit, and the levels. -/
def start (c : Dev nD) : sProp 𝕄 := iprop(G' (inputs m) c ∗ credits (F := F) c ∗ levAts L lv)

/-- Before the body: that, and the scratch buffers. After it: the scratch buffers and every semaphore at zero. -/
def before (c : Dev nD) : sProp 𝕄 := iprop(start m c ∗ scratch (F := F) c)
def after (c : Dev nD) : sProp 𝕄 := iprop(scratch (F := F) c ∗ semVal (barCell c) 0 ∗ bigSep Finset.univ fun k : Fin 14 => done (F := F) c k)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m).x c
    | ⟨1, _⟩ => (inputs m).u0 c
    | ⟨2, _⟩ => (inputs m).v0 c
    | ⟨3, _⟩ => (inputs m).u1 c
    | ⟨4, _⟩ => (inputs m).v1 c
    | ⟨5, _⟩ => (inputs m).u2 c
    | ⟨6, _⟩ => (inputs m).v2 c
    | ⟨7, _⟩ => out (inputs m) c
  Φ t := match t with
    | ⟨0, _⟩ => before m c
    | ⟨_ + 1, _⟩ => after c
  q _ := fullShare
  owed t := match t with
    | ⟨0, _⟩ => O₀ c
    | ⟨_ + 1, _⟩ => 0

/-! ## The body obligation -/

/-- A staging buffer at contents `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem before_0 (c : Dev nD) (d) : (dats m ρ 0 c).before (0 : Fin 8) t0_0 d = (inputs m).x c := by
  unfold Dat.before; rw [if_pos (fetch0_0 t0_0)]; rfl
theorem before_1 (c : Dev nD) (d) : (dats m ρ 0 c).before (1 : Fin 8) t0_0 d = (inputs m).u0 c := by
  unfold Dat.before; rw [if_pos (fetch0_1 t0_0)]; rfl
theorem before_2 (c : Dev nD) (d) : (dats m ρ 0 c).before (2 : Fin 8) t0_0 d = (inputs m).v0 c := by
  unfold Dat.before; rw [if_pos (fetch0_2 t0_0)]; rfl
theorem before_3 (c : Dev nD) (d) : (dats m ρ 0 c).before (3 : Fin 8) t0_0 d = (inputs m).u1 c := by
  unfold Dat.before; rw [if_pos (fetch0_3 t0_0)]; rfl
theorem before_4 (c : Dev nD) (d) : (dats m ρ 0 c).before (4 : Fin 8) t0_0 d = (inputs m).v1 c := by
  unfold Dat.before; rw [if_pos (fetch0_4 t0_0)]; rfl
theorem before_5 (c : Dev nD) (d) : (dats m ρ 0 c).before (5 : Fin 8) t0_0 d = (inputs m).u2 c := by
  unfold Dat.before; rw [if_pos (fetch0_5 t0_0)]; rfl
theorem before_6 (c : Dev nD) (d) : (dats m ρ 0 c).before (6 : Fin 8) t0_0 d = (inputs m).v2 c := by
  unfold Dat.before; rw [if_pos (fetch0_6 t0_0)]; rfl

def pre (c : Dev nD) : sProp 𝕄 :=
  iprop(before m c ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))
def post (c : Dev nD) : sProp 𝕄 :=
  iprop(after c ∗ (dats m ρ 0 c).owesAt () t0_0.succ
    ∗ stg c cc0_stg0_0 ((dats m ρ 0 c).after (0 : Fin 8) t0_0)
    ∗ stg c cc0_stg1_0 ((dats m ρ 0 c).after (1 : Fin 8) t0_0)
    ∗ stg c cc0_stg2_0 ((dats m ρ 0 c).after (2 : Fin 8) t0_0)
    ∗ stg c cc0_stg3_0 ((dats m ρ 0 c).after (3 : Fin 8) t0_0)
    ∗ stg c cc0_stg4_0 ((dats m ρ 0 c).after (4 : Fin 8) t0_0)
    ∗ stg c cc0_stg5_0 ((dats m ρ 0 c).after (5 : Fin 8) t0_0)
    ∗ stg c cc0_stg6_0 ((dats m ρ 0 c).after (6 : Fin 8) t0_0)
    ∗ stg c cc0_stg7_0 ((dats m ρ 0 c).after (7 : Fin 8) t0_0))

theorem pre_open (c : Dev nD) : pre m ρ c ⊢ iprop(before m c ∗ (∃ W, owes (c : Thread nD τ) (O₀ c) W) ∗ staged (inputs m) c ∗ (∃ f, holds c cc0_stg7_0 f)) := by
  unfold pre stg staged
  simp only [before_0, before_1, before_2, before_3, before_4, before_5, before_6]
  iintro ⟨Hb, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩⟩
  subst e0 e1 e2 e3 e4 e5 e6
  unfold Dat.owesAt Pipeline.owesWithin
  icases Ho with ⟨%W, %hW, HO⟩
  isplitl [Hb]; · iexact Hb
  isplitl [HO]; · iexists W; iexact HO
  isplitr [H7]
  · isplitl [H0]; · iexact H0
    isplitl [H1]; · iexact H1
    isplitl [H2]; · iexact H2
    isplitl [H3]; · iexact H3
    isplitl [H4]; · iexact H4
    isplitl [H5]; · iexact H5
    iexact H6
  · iexists g7; iexact H7

theorem post_close (c : Dev nD) : iprop(owing c 14 ∗ semVal (barCell c) 0 ∗ (bigSep Finset.univ fun k : Fin 14 => done c k) ∗ scratch c
      ∗ staged (inputs m) c ∗ holds c cc0_stg7_0 (out (inputs m) c)) ⊢ post m ρ c := by
  unfold post stg staged after owing Dat.owesAt Pipeline.owesWithin
  rw [show (dats m ρ 0 c).owed t0_0.succ = 0 from rfl, owed_end]
  iintro ⟨⟨%W, HO⟩, Hz, Hd, Hs, ⟨H0, H1, H2, H3, H4, H5, H6⟩, H7⟩
  isplitl [Hz Hd Hs]
  · isplitl [Hs]; · iexact Hs
    isplitl [Hz] <;> iassumption
  isplitl [HO]
  · iexists W; isplitr
    · ipureintro; exact fun _ _ => Or.inl trivial
    · iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  isplitl [H5]; · iexists _; isplitr; · (ipureintro; rfl)
                  iexact H5
  isplitl [H6]; · iexists _; isplitr; · (ipureintro; rfl)
                  iexact H6
  iexists _; isplitr; · (ipureintro; rfl)
  iexact H7

theorem laws_of (I : Inputs F) (K : Dev nD × Cell → ℕ) : iprop(records I K ∗ levAts L lv) ⊢ laws I K := by
  unfold records laws
  iintro ⟨⟨#HI, #HR⟩, #HL⟩
  isplitl; · iexact HI
  isplitl; · iexact HR
  iexact HL

set_option maxRecDepth 20000 in
/-- The body at device `c`, from what the region hands it to what the region wants back. -/
theorem body_obligation (c : Dev nD) : BodyObligation (dats (F := F) m ρ 0 c) (defs₀ (F := F)) 𝒱₀ () Set.univ := fun t => by
  rw [show t = t0_0 from fin_N0 t, bigSep_W0, bigSep_W0]
  simp only [owns_whole]
  show pre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) (fun _ => post m ρ c)
  refine (pre_open m ρ c).trans ?_
  unfold before start G'
  iintro ⟨⟨⟨⟨%K, #Hr, Hlin⟩, Hcr, #Hlev⟩, Hs⟩, HO, Hst, Ho⟩
  ihave #Hl := (laws_of (inputs m) K) $$ [Hr Hlev]
  · isplitl [Hr] <;> iassumption
  ihave Ht := (tickets_intro (F := F) c) $$ [Hlin Hcr]
  · isplitl [Hlin] <;> iassumption
  iapply (body_spec (inputs m) K c fun _ => post m ρ c) $$ Hl Ht HO Hs Hst Ho
  iintro HO Hz Hd Hs Hst Ho
  iapply (post_close m ρ c)
  isplitl [HO]; · iexact HO
  isplitl [Hz]; · iexact Hz
  isplitl [Hd]; · iexact Hd
  isplitl [Hs]; · iexact Hs
  isplitl [Hst] <;> iassumption

/-! ## The launch -/

theorem ownSemFacts : Pipeline.OwnSemFacts cfg0.spec osem := by decide

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inputs m) c)
      ⊢ |={Set.univ}=> iprop(start m c ∗ emp) := by
  unfold start
  iintro ⟨-, Hlev, Hcr, -, HG⟩
  ihave Hc := (launch_credits (F := F) c) $$ Hcr
  imodintro
  isplitl
  · isplitl [HG]; · iexact HG
    isplitl [Hc] <;> iassumption
  · iempintro

theorem entry (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scratch
  iintro ⟨Hs, -, Hr⟩
  isplitl [Hs] <;> iassumption

theorem exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq, unscoped_eq,
    show (Pipeline.ownSems0 (Ix := Unit) (Name := ℕ) (U := UU) (Lvl := ℕ) (Val := Elt F) (τ := τ) osem c : sProp 𝕄)
      = iprop((bigSep Finset.univ fun k : Fin 14 => semVal (sendCell c k) 0) ∗ bigSep Finset.univ fun k : Fin 14 => semVal (recvCell c k) 0) from by
        unfold Pipeline.ownSems0; rw [BI.bigSep_univ_sum]; rfl]
  unfold after scratch done
  rw [bigSep_sep']
  iintro ⟨Hs, Hz, Hd⟩
  isplitl [Hz]; · iexact Hz
  isplitl [Hd] <;> iassumption

/-- What window `w`'s array holds at the end. -/
def final (c : Dev nD) (w : Fin cfg0.W) : Buf (Elt F) ((cfg0.win w).arr.view.loc (c : Thread nD τ)) := (dats m ρ 0 c).arrAt w cfg0.N

set_option maxRecDepth 8000 in
/-- Every weakly fair execution ends, with every window's array at `final` and every counter at zero. -/
theorem run : θ_run defs (onTc (τ := τ) (main (F := F))) (s₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inputs m)) (G' := G' (inputs m)) (u₀ := u₀)
    (hu₀ := by
      unfold u₀
      iintro Hu
      ihave H := (ownU_pair _ _) $$ Hu
      icases H with ⟨HP, HX⟩
      imod (mint (inputs m)) $$ HX with HG
      imodintro
      isplitl [HP] <;> iassumption)
    (hglob := glob (inputs m))
    (hA := fun _ _ => rfl) (hpf := fun _ k => k.elim0)
    (X := start m) (Y := fun c => unscopedSems0 c) (Z := fun _ => iprop(emp))
    (hX := start_intro m ρ) (hin := entry m ρ) (hout := exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hand

end
-- ==== Proof.Ideal.Result.lean ====
/-
# What the run leaves

Each window is its whole array: what a device stages of an argument is that array, and its result array ends
holding what the body left in the staging buffer.
-/
module

public import proofs.«01_k».proof.Proof.Ideal.Launch

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem read_0 (f : (main_arg0 : Ref sig .tc).ty.Contents (Elt F)) : (win0_0.blk t0_0).view.read (Elt F) f = f :=
  Memref.read_access_unit_zero (Elt F) main_arg0 (funext fun a => by fin_cases a <;> decide) (fun a => by fin_cases a <;> decide) f
theorem read_1 (f : (main_arg1 : Ref sig .tc).ty.Contents (Elt F)) : (win0_1.blk t0_0).view.read (Elt F) f = f :=
  Memref.read_access_unit_zero (Elt F) main_arg1 (funext fun a => by fin_cases a <;> decide) (fun a => by fin_cases a <;> decide) f
theorem read_2 (f : (main_arg2 : Ref sig .tc).ty.Contents (Elt F)) : (win0_2.blk t0_0).view.read (Elt F) f = f :=
  Memref.read_access_unit_zero (Elt F) main_arg2 (funext fun a => by fin_cases a <;> decide) (fun a => by fin_cases a <;> decide) f
theorem read_3 (f : (main_arg3 : Ref sig .tc).ty.Contents (Elt F)) : (win0_3.blk t0_0).view.read (Elt F) f = f :=
  Memref.read_access_unit_zero (Elt F) main_arg3 (funext fun a => by fin_cases a <;> decide) (fun a => by fin_cases a <;> decide) f
theorem read_4 (f : (main_arg4 : Ref sig .tc).ty.Contents (Elt F)) : (win0_4.blk t0_0).view.read (Elt F) f = f :=
  Memref.read_access_unit_zero (Elt F) main_arg4 (funext fun a => by fin_cases a <;> decide) (fun a => by fin_cases a <;> decide) f
theorem read_5 (f : (main_arg5 : Ref sig .tc).ty.Contents (Elt F)) : (win0_5.blk t0_0).view.read (Elt F) f = f :=
  Memref.read_access_unit_zero (Elt F) main_arg5 (funext fun a => by fin_cases a <;> decide) (fun a => by fin_cases a <;> decide) f
theorem read_6 (f : (main_arg6 : Ref sig .tc).ty.Contents (Elt F)) : (win0_6.blk t0_0).view.read (Elt F) f = f :=
  Memref.read_access_unit_zero (Elt F) main_arg6 (funext fun a => by fin_cases a <;> decide) (fun a => by fin_cases a <;> decide) f
theorem read_7 (f : (main_v1 : Ref sig .tc).ty.Contents (Elt F)) : (win0_7.blk t0_0).view.read (Elt F) f = f :=
  Memref.read_access_unit_zero (Elt F) main_v1 (funext fun a => by fin_cases a <;> decide) (fun a => by fin_cases a <;> decide) f

/-- The arguments, as the arrays hold them. -/
def arrays : Inputs F where
  x c := m ((c : Thread nD τ).loc main_arg0)
  u0 c := m ((c : Thread nD τ).loc main_arg1)
  v0 c := m ((c : Thread nD τ).loc main_arg2)
  u1 c := m ((c : Thread nD τ).loc main_arg3)
  v1 c := m ((c : Thread nD τ).loc main_arg4)
  u2 c := m ((c : Thread nD τ).loc main_arg5)
  v2 c := m ((c : Thread nD τ).loc main_arg6)

theorem inputs_eq : inputs m = arrays m := by
  unfold inputs arrays
  congr 1 <;> funext c
  · exact read_0 _
  · exact read_1 _
  · exact read_2 _
  · exact read_3 _
  · exact read_4 _
  · exact read_5 _
  · exact read_6 _

theorem final_in (c : Dev nD) (w : Fin cfg0.W) (h : (cfg0.win w).isOut = false) : final m ρ c w = m ((cfg0.win w).arr.view.loc (c : Thread nD τ)) :=
  (dats m ρ 0 c).arrAt_in w h _

theorem final_out (c : Dev nD) : final m ρ c (7 : Fin 8) = out (arrays m) c := by
  have h : (win0_7.blk t0_0).view.read (Elt F) (final m ρ c (7 : Fin 8)) = out (inputs m) c := by
    unfold final
    rw [show cfg0.N = t0_0.val + 1 from rfl, (dats m ρ 0 c).arrAt_succ (7 : Fin 8) t0_0, if_pos (flush0_7 t0_0)]
    exact View.read_write_univ _ _
  rw [read_7, inputs_eq] at h
  exact h

/-- Every execution ends; each device's result is `out` of the arguments, the arguments are kept, every counter is zero. -/
theorem run_result : θ_run defs (onTc (τ := τ) (main (F := F))) ⟨m, fun _ => 0, ρ⟩ (fun r => (∀ c : Dev nD,
      r.2.mem ((c.tc : Thread nD τ).loc main_v1) = out (arrays m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c (7 : Fin 8)).trans (final_out m ρ c),
    (h.1 c (0 : Fin 8)).trans (final_in m ρ c (0 : Fin 8) rfl),
    (h.1 c (1 : Fin 8)).trans (final_in m ρ c (1 : Fin 8) rfl),
    (h.1 c (2 : Fin 8)).trans (final_in m ρ c (2 : Fin 8) rfl),
    (h.1 c (3 : Fin 8)).trans (final_in m ρ c (3 : Fin 8) rfl),
    (h.1 c (4 : Fin 8)).trans (final_in m ρ c (4 : Fin 8) rfl),
    (h.1 c (5 : Fin 8)).trans (final_in m ρ c (5 : Fin 8) rfl),
    (h.1 c (6 : Fin 8)).trans (final_in m ρ c (6 : Fin 8) rfl)⟩, h.2⟩) (run m ρ)

end Cert.KernelIdeal.Hand

end
-- ==== Proof.Ideal.Layer.lean ====
/-
# One layer, cut along its hidden columns

Over exact values, a layer's result is a sum over the 4096 hidden columns. A device's partial product is that sum over
its own 1024 of them; so the four partial products add up to the layer.
-/
module

public import proofs.«01_k».proof.Proof.Ideal.Contents
public import proofs.«01_k».proof.Proof.Gen.ReferenceIdeal
public import Idealize.ShloMosaic.Lib.Layout
public import Idealize.ShloMosaic.Lib.Pointwise

@[expose] public section

set_option maxRecDepth 16384

noncomputable section

namespace Cert.KernelIdeal.Hand

open Cert.KernelIdeal Cert.KernelIdeal.Gen

open Idealize.ShloMosaic

/-- One layer of the reference: the rectified product with the first weight, times the second. -/
def layer (x : Vec Ideal S256x512 .f32) (u : Vec Ideal ⟨2, ![512, 4096]⟩ .f32) (w : Vec Ideal ⟨2, ![4096, 512]⟩ .f32) :
    Vec Ideal S256x512 .f32 :=
  Host.dotGeneral (F := Ideal) (φ₁ := .f32) (φ₂ := .f32) Cert.ReferenceIdeal.dot_S256x4096_S4096x512_S256x512_1_0_0_1_n_n none
    (maximumf (Host.dotGeneral (F := Ideal) (φ₁ := .f32) (φ₂ := .f32) Cert.ReferenceIdeal.dot_S256x512_S512x4096_S256x4096_1_0_0_1_n_n none x u)
      (broadcastInDim Cert.ReferenceIdeal.S256x4096 ![] Cert.ReferenceIdeal.Gen.bcast_S_S256x4096 (constant Cert.ReferenceIdeal.S_ .f32 0x00000000#32))) w

/-- The layer and a partial product at an index. -/
theorem layer_apply (x : Vec Ideal S256x512 .f32) (u : Vec Ideal ⟨2, ![512, 4096]⟩ .f32) (w : Vec Ideal ⟨2, ![4096, 512]⟩ .f32)
    (j : S256x512.Idx) : layer x u w j
      = ∑ k : Fin 4096, max (∑ l : Fin 512, x (ix2 (j 0) l) * u (ix2 l k)) 0 * w (ix2 k (j 1)) := by
  pointwise [layer]

theorem mlp_apply (x : Vec Ideal S256x512 .f32) (u : Vec Ideal S512x1024 .f32) (w : Vec Ideal S1024x512 .f32)
    (j : S256x512.Idx) : mlp x u w j
      = ∑ k : Fin 1024, max (∑ l : Fin 512, x (ix2 (j 0) l) * u (ix2 l k)) 0 * w (ix2 k (j 1)) := by
  pointwise [mlp, k0_pay7]

/-- A sum over the hidden columns, device by device. -/
theorem sum_columns (f : Fin 4096 → Ideal .f32) :
    ∑ d : Fin 4, ∑ k : Fin 1024, f ⟨d.val * 1024 + k.val, by omega⟩ = ∑ k : Fin 4096, f k := by
  rw [← Fintype.sum_prod_type']
  refine Fintype.sum_equiv (finProdFinEquiv (m := 4) (n := 1024)) _ _ fun p => congrArg f (Fin.ext ?_)
  show p.1.val * 1024 + p.2.val = p.2.val + 1024 * p.1.val
  omega

/-- The partial products of the four devices add up to the layer. -/
theorem sum_mlp (x : Vec Ideal S256x512 .f32) (u : Vec Ideal ⟨2, ![512, 4096]⟩ .f32) (w : Vec Ideal ⟨2, ![4096, 512]⟩ .f32)
    (j : S256x512.Idx) :
    ∑ d : Dev nD, mlp x (Layout.block ⟨2, ![512, 1024]⟩ ⟨2, ![512, 4096]⟩ 1 4 d u)
      (Layout.block ⟨2, ![1024, 512]⟩ ⟨2, ![4096, 512]⟩ 0 4 d w) j = layer x u w j := by
  rw [layer_apply, ← sum_columns]
  refine Finset.sum_congr rfl fun (d : Fin 4) _ => ?_
  rw [mlp_apply]
  refine Finset.sum_congr rfl fun k _ => ?_
  have hu (l : Fin 512) : (Layout.block ⟨2, ![512, 1024]⟩ ⟨2, ![512, 4096]⟩ 1 4 d u) (ix2 l k) = u (ix2 l ⟨d.val * 1024 + k.val, by omega⟩) :=
    congrArg u (funext fun a => match a with
      | ⟨0, _⟩ => rfl
      | ⟨1, _⟩ => rfl)
  have hw : (Layout.block ⟨2, ![1024, 512]⟩ ⟨2, ![4096, 512]⟩ 0 4 d w) (ix2 k (j 1)) = w (ix2 ⟨d.val * 1024 + k.val, by omega⟩ (j 1)) :=
    congrArg w (funext fun a => match a with
      | ⟨0, _⟩ => rfl
      | ⟨1, _⟩ => rfl)
  rw [hw]
  simp only [hu]

end Cert.KernelIdeal.Hand

end
-- ==== Proof.Ideal.Value.lean ====
/-
# The kernel's result is the reference's

Over exact values. The two exchanges leave on every device the sum of the four devices' partial products, which is the
whole layer; the last exchange leaves on device `c` row block `c` of that sum. So the result of device `c` is row block
`c` of the three layers of the whole arrays.
-/
module

public import proofs.«01_k».proof.Proof.Ideal.Layer

@[expose] public section

noncomputable section

namespace Cert.KernelIdeal.Hand

open Cert.KernelIdeal Cert.KernelIdeal.Gen

open Idealize.ShloMosaic

/-- The sum over the four devices, listed from any one of them. -/
theorem sum_around (f : Dev nD → Ideal .f32) (c : Dev nD) : ∑ d : Dev nD, f d = f c + f (pY c) + f (pX c) + f (pD c) := by
  have h : (Finset.univ : Finset (Dev nD)) = {c, pY c, pX c, pD c} := by revert c; decide
  have hn := around_nodup c
  simp only [List.nodup_cons, List.mem_cons, List.not_mem_nil, or_false, not_or, List.nodup_nil, not_false_eq_true, and_true] at hn
  obtain ⟨⟨h1, h2, h3⟩, ⟨h4, h5⟩, h6⟩ := hn
  rw [h, Finset.sum_insert (by simp [h1, h2, h3]), Finset.sum_insert (by simp [h4, h5]), Finset.sum_insert (by simp [h6]),
    Finset.sum_singleton, ← add_assoc, ← add_assoc]

/-- After the two exchanges every device holds the sum over the four devices. -/
theorem stepB_stepA (v : Dev nD → Vec Ideal S256x512 .f32) (c : Dev nD) :
    stepB (stepA v) c = fun j => ∑ d : Dev nD, v d j := by
  refine ext_halves ?_ ?_
  · unfold stepB stepA
    simp only [lo_glue]
    funext j
    refine Eq.trans ?_ (sum_around (fun d => v d (loR.emb j)) c).symm
    show (v c (loR.emb j) + v (pY c) (loR.emb j)) + (v (pX c) (loR.emb j) + v (pY (pX c)) (loR.emb j)) = _
    rw [pY_pX, ← add_assoc]
  · unfold stepB stepA
    simp only [hi_glue]
    funext j
    refine Eq.trans ?_ (sum_around (fun d => v d (hiR.emb j)) c).symm
    show (v c (hiR.emb j) + v (pX c) (hiR.emb j)) + (v (pY c) (hiR.emb j) + v (pX (pY c)) (hiR.emb j)) = _
    rw [pX_pY, ← add_assoc, add_right_comm (v c (hiR.emb j))]

/-- A device's row block, in the words of the layout of the whole arrays. -/
theorem rows_eq_block (c : Dev nD) (v : Vec Ideal S256x512 .f32) :
    rows c v = Layout.block ⟨2, ![64, 512]⟩ ⟨2, ![256, 512]⟩ 0 4 c v := funext fun j =>
  congrArg v (funext fun a => match a with
    | ⟨0, _⟩ => Fin.ext ((rowR_emb0 c j).trans (by rw [Nat.mul_comm]; rfl))
    | ⟨1, _⟩ => Fin.ext (rowR_emb1 c j))

variable (x : Vec Ideal S256x512 .f32) (u0 u1 u2 : Vec Ideal ⟨2, ![512, 4096]⟩ .f32) (w0 w1 w2 : Vec Ideal ⟨2, ![4096, 512]⟩ .f32)

/-- The four devices' parts of the whole arrays. -/
def parts : Inputs Ideal where
  x c := Layout.block ⟨2, ![64, 512]⟩ ⟨2, ![256, 512]⟩ 0 4 c x
  u0 c := Layout.block ⟨2, ![512, 1024]⟩ ⟨2, ![512, 4096]⟩ 1 4 c u0
  v0 c := Layout.block ⟨2, ![1024, 512]⟩ ⟨2, ![4096, 512]⟩ 0 4 c w0
  u1 c := Layout.block ⟨2, ![512, 1024]⟩ ⟨2, ![512, 4096]⟩ 1 4 c u1
  v1 c := Layout.block ⟨2, ![1024, 512]⟩ ⟨2, ![4096, 512]⟩ 0 4 c w1
  u2 c := Layout.block ⟨2, ![512, 1024]⟩ ⟨2, ![512, 4096]⟩ 1 4 c u2
  v2 c := Layout.block ⟨2, ![1024, 512]⟩ ⟨2, ![4096, 512]⟩ 0 4 c w2

/-- The gathered input is the whole input, and each layer's input is the layer before it, on every device. -/
theorem X0_parts : X0 (parts x u0 u1 u2 w0 w1 w2) = x :=
  ext_rows fun d => (rows_stack _ d).trans (rows_eq_block d x).symm
theorem X1_parts (c : Dev nD) : X1 (parts x u0 u1 u2 w0 w1 w2) c = layer x u0 w0 := by
  refine (stepB_stepA (P0 (parts x u0 u1 u2 w0 w1 w2)) c).trans (funext fun j => ?_)
  unfold P0
  rw [X0_parts]
  exact sum_mlp x u0 w0 j
theorem X2_parts (c : Dev nD) : X2 (parts x u0 u1 u2 w0 w1 w2) c = layer (layer x u0 w0) u1 w1 := by
  refine (stepB_stepA (P1 (parts x u0 u1 u2 w0 w1 w2)) c).trans (funext fun j => ?_)
  unfold P1
  simp only [X1_parts]
  exact sum_mlp (layer x u0 w0) u1 w1 j

/-- The result of device `c` is row block `c` of the three layers. -/
theorem out_parts (c : Dev nD) : out (parts x u0 u1 u2 w0 w1 w2) c
    = Layout.block ⟨2, ![64, 512]⟩ ⟨2, ![256, 512]⟩ 0 4 c (layer (layer (layer x u0 w0) u1 w1) u2 w2) := by
  rw [← rows_eq_block]
  funext j
  refine (sum_around (fun d => P2 (parts x u0 u1 u2 w0 w1 w2) d ((rowR c).emb j)) c).symm.trans ?_
  unfold P2
  simp only [X2_parts]
  exact sum_mlp (layer (layer x u0 w0) u1 w1) u2 w2 ((rowR c).emb j)

end Cert.KernelIdeal.Hand

end
-- ==== Proof.lean ====
/-
# The certificate

The kernel run with machine floats, the kernel and the reference run over exact values: each ends, leaves its arguments
as they were and every semaphore counter at zero. Over exact values device `c`'s result is row block `c` of the
reference's. The runs of the kernel are `run_result` of the modules `Bits.Result` and `Ideal.Result`; the values are
compared in `Ideal.Value`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Result
public import proofs.«01_k».proof.Proof.Ideal.Result
public import proofs.«01_k».proof.Proof.Ideal.Value
public import Idealize.ShloMosaic.Adequacy
public import Idealize.ShloMosaic.Init

@[expose] public section

noncomputable section

namespace Cert.Proof

open Idealize.ShloMosaic Idealize.SL.Sem Cert.Kernel

/-- The kernel with machine floats ends, its arguments kept and every counter at zero. -/
theorem kernel_frame : Cert.quiescent_Kernel (hKernel := Cert.Kernel.Gen.facts) := fun m g _ =>
  (θ_run Cert.Kernel.defs _ _).mono (fun _ h => ⟨fun c => (h.1 c).2, h.2⟩) (Cert.Kernel.Hand.run_result (F := Bits) m g)

/-- The kernel over exact values ends, its arguments kept and every counter at zero. -/
theorem ideal_frame : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run_result (F := Ideal) m g)

/-- The reference over exact values ends, its arguments kept; it has no semaphores. -/
theorem reference_frame : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- What a device's arrays hold, when they are the parts of whole arrays. -/
theorem arrays_parts (m : (ℓ : Loc Cert.KernelIdeal.nD Cert.KernelIdeal.τ Cert.KernelIdeal.sig) → Buf (Elt Ideal) ℓ)
    (x : Vec Ideal Cert.KernelIdeal.S256x512 .f32) (u0 u1 u2 : Vec Ideal ⟨2, ![512, 4096]⟩ .f32) (w0 w1 w2 : Vec Ideal ⟨2, ![4096, 512]⟩ .f32)
    (h : ∀ c : Dev Cert.KernelIdeal.nD,
      (Cert.KernelIdeal.Hand.arrays m).x c = (Cert.KernelIdeal.Hand.parts x u0 u1 u2 w0 w1 w2).x c
      ∧ (Cert.KernelIdeal.Hand.arrays m).u0 c = (Cert.KernelIdeal.Hand.parts x u0 u1 u2 w0 w1 w2).u0 c
      ∧ (Cert.KernelIdeal.Hand.arrays m).v0 c = (Cert.KernelIdeal.Hand.parts x u0 u1 u2 w0 w1 w2).v0 c
      ∧ (Cert.KernelIdeal.Hand.arrays m).u1 c = (Cert.KernelIdeal.Hand.parts x u0 u1 u2 w0 w1 w2).u1 c
      ∧ (Cert.KernelIdeal.Hand.arrays m).v1 c = (Cert.KernelIdeal.Hand.parts x u0 u1 u2 w0 w1 w2).v1 c
      ∧ (Cert.KernelIdeal.Hand.arrays m).u2 c = (Cert.KernelIdeal.Hand.parts x u0 u1 u2 w0 w1 w2).u2 c
      ∧ (Cert.KernelIdeal.Hand.arrays m).v2 c = (Cert.KernelIdeal.Hand.parts x u0 u1 u2 w0 w1 w2).v2 c) :
    Cert.KernelIdeal.Hand.arrays m = Cert.KernelIdeal.Hand.parts x u0 u1 u2 w0 w1 w2 := by
  have e (A B : Cert.KernelIdeal.Hand.Inputs Ideal) (h1 : A.x = B.x) (h2 : A.u0 = B.u0) (h3 : A.v0 = B.v0) (h4 : A.u1 = B.u1)
      (h5 : A.v1 = B.v1) (h6 : A.u2 = B.u2) (h7 : A.v2 = B.v2) : A = B := by
    cases A; cases B; simp only at h1 h2 h3 h4 h5 h6 h7; subst h1 h2 h3 h4 h5 h6 h7; rfl
  exact e _ _ (funext fun c => (h c).1) (funext fun c => (h c).2.1) (funext fun c => (h c).2.2.1) (funext fun c => (h c).2.2.2.1)
    (funext fun c => (h c).2.2.2.2.1) (funext fun c => (h c).2.2.2.2.2.1) (funext fun c => (h c).2.2.2.2.2.2)

/-- Over exact values device `c`'s result is row block `c` of the reference's, from arguments that are the parts of the
    reference's. -/
theorem algebraic : Cert.algebraic_KernelIdeal_ReferenceIdeal (hKernelIdeal := Cert.KernelIdeal.Gen.facts)
    (hReferenceIdeal := Cert.ReferenceIdeal.Gen.facts) := by
  intro m g m' g' _ hagree
  have hparts := arrays_parts m _ _ _ _ _ _ _ hagree
  refine ⟨_, (θ_run Cert.KernelIdeal.defs _ _).mono (fun _ h c => ⟨(h.1 c).1.trans ?_, (h.1 c).2⟩)
    (Cert.KernelIdeal.Hand.run_result (F := Ideal) m g),
    (θ_run Cert.ReferenceIdeal.defs _ _).mono (fun _ h => h 0) (Cert.ReferenceIdeal.Value.run (F := Ideal) m' g')⟩
  rw [hparts]
  exact Cert.KernelIdeal.Hand.out_parts _ _ _ _ _ _ _ c

/-- All five claims. -/
theorem claim : Cert.Claim := ⟨Cert.Kernel.Gen.facts, Cert.KernelIdeal.Gen.facts, Cert.ReferenceIdeal.Gen.facts,
  kernel_frame, ideal_frame, reference_frame, trivial, algebraic⟩

end Cert.Proof

end
